-- ==== Defs.lean ====
def Pre_Kernel [hPre_groups_fill : Cert.Pre_groups_fill.Facts] (m : (ℓ : Loc Cert.Kernel.nD Cert.Kernel.τ Cert.Kernel.sig) → Buf (Elt Bits) ℓ) : Prop :=
  ∀ c : Dev Cert.Kernel.nD,
    (Cert.Pre_groups_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_fill : Cert.Pre_groups_fill.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_fill : Cert.Pre_groups_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_fill : Cert.Pre_groups_fill.Facts) (hPre_rows_in_range : Cert.Pre_rows_in_range.Facts),
    quiescent_Kernel (hKernel := hKernel) (hPre_groups_fill := hPre_groups_fill)
    ∧ quiescent_KernelIdeal (hKernelIdeal := hKernelIdeal) (hPre_groups_fill := hPre_groups_fill)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_groups_fill.lean ====
abbrev S17408x1408 : Shape := ⟨2, ![17408, 1408]⟩
abbrev S16 : Shape := ⟨1, ![16]⟩
abbrev S16x1408x2816 : Shape := ⟨3, ![16, 1408, 2816]⟩
abbrev S16x2816 : Shape := ⟨2, ![16, 2816]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S17408x1408 .bf16) (main_arg1 : IVec S16 32) (main_arg2 : FVec F S16x1408x2816 .fp8e4m3) (main_arg3 : FVec F S16x2816 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 17408#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 17408#32
  let main_v7 : IVec S_ 1 := cmpi .eq main_v6 main_c_3
  let main_v8 : IVec S_ 1 := andi main_v5 main_v7
  main_v8
-- ==== Pre_rows_in_range.lean ====
abbrev S17408x1408 : Shape := ⟨2, ![17408, 1408]⟩
abbrev S16 : Shape := ⟨1, ![16]⟩
abbrev S16x1408x2816 : Shape := ⟨3, ![16, 1408, 2816]⟩
abbrev S16x2816 : Shape := ⟨2, ![16, 2816]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S17408x1408 : S_.BroadcastsInDim S17408x1408 (![] : Fin 0 → Fin S17408x1408.rank)
  reducesTo_S17408x1408_S_d0_1 : S17408x1408.ReducesTo [0, 1] S_

variable [Facts]

def fn_part1 {F : FTy → Type} [FloatOps F] (main_v8 : IVec S_ 1) (main_v15 : IVec S17408x1408 1) (main_c_5 : IVec S_ 1) : IVec S_ 1 :=
  let main_v16 : IVec S_ 1 := (fun x v => Host.reduce IntOp.andi x v reducesTo_S17408x1408_S_d0_1 h_S_) main_v15 main_c_5
  let main_v17 : IVec S_ 1 := andi main_v8 main_v16
  main_v17

def fn {F : FTy → Type} [FloatOps F] (main_arg0 : FVec F S17408x1408 .bf16) (main_arg1 : IVec S16 32) (main_arg2 : FVec F S16x1408x2816 .fp8e4m3) (main_arg3 : FVec F S16x2816 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 17408#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 17408#32
  let main_v7 : IVec S_ 1 := cmpi .eq main_v6 main_c_3
  let main_v8 : IVec S_ 1 := andi main_v5 main_v7
  let main_v9 : FVec F S17408x1408 .f32 := (extf .f32 · bitsLt_bf16_f32) main_arg0
  let main_v10 : FVec F S17408x1408 .f32 := Host.absf main_v9
  let main_cst : FVec F S_ .f32 := constant S_ .f32 0x7F7F0000#32
  let main_v11 : FVec F S17408x1408 .f32 := broadcastInDim S17408x1408 ![] bcast_S_S17408x1408 main_cst
  let main_v12 : IVec S17408x1408 1 := cmpf .ole main_v10 main_v11
  let main_cst_4 : FVec F S_ .f32 := constant S_ .f32 0x7F800000#32
  let main_v13 : FVec F S17408x1408 .f32 := broadcastInDim S17408x1408 ![] bcast_S_S17408x1408 main_cst_4
  let main_v14 : IVec S17408x1408 1 := cmpf .oeq main_v10 main_v13
  let main_v15 : IVec S17408x1408 1 := ori main_v12 main_v14
  let main_c_5 : IVec S_ 1 := constantI S_ 1 1#1
  fn_part1 (F := F) main_v8 main_v15 main_c_5
-- ==== Kernel.lean ====
abbrev S17408x1408 : Shape := ⟨2, ![17408, 1408]⟩
abbrev S16 : Shape := ⟨1, ![16]⟩
abbrev S16x1408x2816 : Shape := ⟨3, ![16, 1408, 2816]⟩
abbrev S16x2816 : Shape := ⟨2, ![16, 2816]⟩
abbrev S_ : Shape := ⟨0, ![]⟩
abbrev S49 : Shape := ⟨1, ![49]⟩
abbrev S1x49 : Shape := ⟨2, ![1, 49]⟩
abbrev S16x1 : Shape := ⟨2, ![16, 1]⟩
abbrev S16x49 : Shape := ⟨2, ![16, 49]⟩
abbrev S1 : Shape := ⟨1, ![1]⟩
abbrev S49x1 : Shape := ⟨2, ![49, 1]⟩
abbrev S48 : Shape := ⟨1, ![48]⟩
abbrev S16x1x2816 : Shape := ⟨3, ![16, 1, 2816]⟩
abbrev S17408x2816 : Shape := ⟨2, ![17408, 2816]⟩
abbrev S512x1408 : Shape := ⟨2, ![512, 1408]⟩
abbrev S1x1408x2816 : Shape := ⟨3, ![1, 1408, 2816]⟩
abbrev S1x1x2816 : Shape := ⟨3, ![1, 1, 2816]⟩
abbrev S512x2816 : Shape := ⟨2, ![512, 2816]⟩
abbrev S512x128 : Shape := ⟨2, ![512, 128]⟩
abbrev S512 : Shape := ⟨1, ![512]⟩
abbrev S512x1 : Shape := ⟨2, ![512, 1]⟩
abbrev S1x255 : Shape := ⟨2, ![1, 255]⟩
abbrev S512x255 : Shape := ⟨2, ![512, 255]⟩
abbrev S1408x2816 : Shape := ⟨2, ![1408, 2816]⟩
abbrev S1x2816 : Shape := ⟨2, ![1, 2816]⟩

abbrev nBuf : Space → Nat
  | .hbm => 115
  | .vmem => 10
  | .smem => 5
  | _ => 0

abbrev bufTy : (tb : Table) → Fin (tcTables nBuf tb) → BufTy
  | .hbm, ⟨0, _⟩ => ⟨S17408x1408, .bf16⟩
  | .hbm, ⟨1, _⟩ => ⟨S16, .i32⟩
  | .hbm, ⟨2, _⟩ => ⟨S16x1408x2816, .fp8e4m3⟩
  | .hbm, ⟨3, _⟩ => ⟨S16x2816, .f32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S_, .i32⟩
  | .hbm, ⟨36, _⟩ => ⟨S16, .i32⟩
  | .hbm, ⟨37, _⟩ => ⟨S16, .i32⟩
  | .hbm, ⟨38, _⟩ => ⟨S16, .i32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S16, .i32⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S16, .i1⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S16, .i32⟩
  | .hbm, ⟨52, _⟩ => ⟨S16, .i32⟩
  | .hbm, ⟨53, _⟩ => ⟨S_, .i32⟩
  | .hbm, ⟨54, _⟩ => ⟨S_, .i32⟩
  | .hbm, ⟨55, _⟩ => ⟨S16, .i32⟩
  | .hbm, ⟨56, _⟩ => ⟨S16, .i32⟩
  | .hbm, ⟨57, _⟩ => ⟨S_, .i32⟩
  | .hbm, ⟨58, _⟩ => ⟨S_, .i32⟩
  | .hbm, ⟨59, _⟩ => ⟨S16, .i32⟩
  | .hbm, ⟨60, _⟩ => ⟨S49, .i32⟩
  | .hbm, ⟨61, _⟩ => ⟨S1x49, .i32⟩
  | .hbm, ⟨62, _⟩ => ⟨S16x1, .i32⟩
  | .hbm, ⟨63, _⟩ => ⟨S16x49, .i32⟩
  | .hbm, ⟨64, _⟩ => ⟨S16x49, .i32⟩
  | .hbm, ⟨65, _⟩ => ⟨S16x49, .i1⟩
  | .hbm, ⟨66, _⟩ => ⟨S16x49, .i32⟩
  | .hbm, ⟨67, _⟩ => ⟨S_, .i32⟩
  | .hbm, ⟨68, _⟩ => ⟨S49, .i32⟩
  | .hbm, ⟨69, _⟩ => ⟨S_, .i32⟩
  | .hbm, ⟨70, _⟩ => ⟨S49, .i32⟩
  | .hbm, ⟨71, _⟩ => ⟨S49, .i32⟩
  | .hbm, ⟨72, _⟩ => ⟨S1, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S49, .i32⟩
  | .hbm, ⟨77, _⟩ => ⟨S49, .i32⟩
  | .hbm, ⟨78, _⟩ => ⟨S_, .i32⟩
  | .hbm, ⟨79, _⟩ => ⟨S49, .i32⟩
  | .hbm, ⟨80, _⟩ => ⟨S49, .i1⟩
  | .hbm, ⟨81, _⟩ => ⟨S_, .i32⟩
  | .hbm, ⟨82, _⟩ => ⟨S49, .i32⟩
  | .hbm, ⟨83, _⟩ => ⟨S49, .i32⟩
  | .hbm, ⟨84, _⟩ => ⟨S49, .i32⟩
  | .hbm, ⟨85, _⟩ => ⟨S49x1, .i32⟩
  | .hbm, ⟨86, _⟩ => ⟨S_, .i32⟩
  | .hbm, ⟨87, _⟩ => ⟨S49, .i32⟩
  | .hbm, ⟨88, _⟩ => ⟨S49, .i1⟩
  | .hbm, ⟨89, _⟩ => ⟨S_, .i32⟩
  | .hbm, ⟨90, _⟩ => ⟨S49, .i32⟩
  | .hbm, ⟨91, _⟩ => ⟨S49, .i32⟩
  | .hbm, ⟨92, _⟩ => ⟨S49, .i32⟩
  | .hbm, ⟨93, _⟩ => ⟨S49x1, .i32⟩
  | .hbm, ⟨94, _⟩ => ⟨S49, .i32⟩
  | .hbm, ⟨95, _⟩ => ⟨S49, .i32⟩
  | .hbm, ⟨96, _⟩ => ⟨S16, .i32⟩
  | .hbm, ⟨97, _⟩ => ⟨S_, .i32⟩
  | .hbm, ⟨98, _⟩ => ⟨S49, .i32⟩
  | .hbm, ⟨99, _⟩ => ⟨S49, .i1⟩
  | .hbm, ⟨100, _⟩ => ⟨S_, .i32⟩
  | .hbm, ⟨101, _⟩ => ⟨S49, .i32⟩
  | .hbm, ⟨102, _⟩ => ⟨S49, .i32⟩
  | .hbm, ⟨103, _⟩ => ⟨S49, .i32⟩
  | .hbm, ⟨104, _⟩ => ⟨S49x1, .i32⟩
  | .hbm, ⟨105, _⟩ => ⟨S49, .i32⟩
  | .hbm, ⟨106, _⟩ => ⟨S_, .i32⟩
  | .hbm, ⟨107, _⟩ => ⟨S1, .i32⟩
  | .hbm, ⟨108, _⟩ => ⟨S48, .i32⟩
  | .hbm, ⟨109, _⟩ => ⟨S49, .i32⟩
  | .hbm, ⟨110, _⟩ => ⟨S49, .i1⟩
  | .hbm, ⟨111, _⟩ => ⟨S49, .i32⟩
  | .hbm, ⟨112, _⟩ => ⟨S49, .i1⟩
  | .hbm, ⟨113, _⟩ => ⟨S16x1x2816, .f32⟩
  | .hbm, ⟨114, _⟩ => ⟨S17408x2816, .bf16⟩
  | .local _ .vmem, ⟨0, _⟩ => ⟨S512x1408, .bf16⟩
  | .local _ .vmem, ⟨1, _⟩ => ⟨S512x1408, .bf16⟩
  | .local _ .vmem, ⟨2, _⟩ => ⟨S1x1408x2816, .fp8e4m3⟩
  | .local _ .vmem, ⟨3, _⟩ => ⟨S1x1408x2816, .fp8e4m3⟩
  | .local _ .vmem, ⟨4, _⟩ => ⟨S1x1x2816, .f32⟩
  | .local _ .vmem, ⟨5, _⟩ => ⟨S1x1x2816, .f32⟩
  | .local _ .vmem, ⟨6, _⟩ => ⟨S512x2816, .bf16⟩
  | .local _ .vmem, ⟨7, _⟩ => ⟨S512x2816, .bf16⟩
  | .local _ .vmem, ⟨8, _⟩ => ⟨S512x1408, .fp8e4m3⟩
  | .local _ .vmem, ⟨9, _⟩ => ⟨S512x128, .f32⟩
  | .local _ .smem, ⟨0, _⟩ => ⟨S49, .i32⟩
  | .local _ .smem, ⟨1, _⟩ => ⟨S49, .i32⟩
  | .local _ .smem, ⟨2, _⟩ => ⟨S16, .i32⟩
  | .local _ .smem, ⟨3, _⟩ => ⟨S49, .i32⟩
  | .local _ .smem, ⟨4, _⟩ => ⟨S49, .i32⟩
  | _, _ => ⟨S17408x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_c_2 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v9 : Ref sig .tc := ⟨.hbm, 51, rfl⟩
abbrev main_v10 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_call4_call0_c : Ref sig .tc := ⟨.hbm, 57, rfl⟩
abbrev main_call4_call0_v0 : Ref sig .tc := ⟨.hbm, 58, rfl⟩
abbrev main_v12 : Ref sig .tc := ⟨.hbm, 59, rfl⟩
abbrev main_v13 : Ref sig .tc := ⟨.hbm, 60, rfl⟩
abbrev main_call5_call0_v0 : Ref sig .tc := ⟨.hbm, 61, rfl⟩
abbrev main_call5_call0_v1 : Ref sig .tc := ⟨.hbm, 62, rfl⟩
abbrev main_call5_call0_v2 : Ref sig .tc := ⟨.hbm, 63, rfl⟩
abbrev main_call5_call0_v3 : Ref sig .tc := ⟨.hbm, 64, rfl⟩
abbrev main_call5_call0_v4 : Ref sig .tc := ⟨.hbm, 65, rfl⟩
abbrev main_call5_call0_v5 : Ref sig .tc := ⟨.hbm, 66, rfl⟩
abbrev main_call5_call0_c : Ref sig .tc := ⟨.hbm, 67, rfl⟩
abbrev main_v14 : Ref sig .tc := ⟨.hbm, 68, rfl⟩
abbrev main_c_5 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_c_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_c_7 : Ref sig .tc := ⟨.hbm, 78, rfl⟩
abbrev main_v22 : Ref sig .tc := ⟨.hbm, 79, rfl⟩
abbrev main_v23 : Ref sig .tc := ⟨.hbm, 80, rfl⟩
abbrev main_c_8 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_c_9 : Ref sig .tc := ⟨.hbm, 86, rfl⟩
abbrev main_v29 : Ref sig .tc := ⟨.hbm, 87, rfl⟩
abbrev main_v30 : Ref sig .tc := ⟨.hbm, 88, rfl⟩
abbrev main_c_10 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_c_11 : Ref sig .tc := ⟨.hbm, 97, rfl⟩
abbrev main_v38 : Ref sig .tc := ⟨.hbm, 98, rfl⟩
abbrev main_v39 : Ref sig .tc := ⟨.hbm, 99, rfl⟩
abbrev main_c_12 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_c_13 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v51 : Ref sig .tc := ⟨.hbm, 111, rfl⟩
abbrev main_v52 : Ref sig .tc := ⟨.hbm, 112, rfl⟩
abbrev main_v54 : Ref sig .tc := ⟨.hbm, 113, rfl⟩
abbrev main_v55 : Ref sig .tc := ⟨.hbm, 114, rfl⟩
abbrev main_v45 : Ref sig .tc := ⟨.smem, 0, rfl⟩
abbrev main_v28 : Ref sig .tc := ⟨.smem, 1, rfl⟩
abbrev main_v1 : Ref sig .tc := ⟨.smem, 2, rfl⟩
abbrev main_v50 : Ref sig .tc := ⟨.smem, 3, rfl⟩
abbrev main_v53 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![49], ![false]⟩

abbrev pre0 : Pipeline.Prefetch sig := ⟨5, ![main_v45.idx, main_v28.idx, main_v1.idx, main_v50.idx, main_v53.idx], fun | 0 => main_v45.names | 1 => main_v28.names | 2 => main_v1.names | 3 => main_v50.names | 4 => main_v53.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (v6 : BitVec 32) : Fin 1 → Nat :=
  let v7 : Index := Scalar.indexCast v6
  ![v7.toNat]

def k0_chk1 (v6 : BitVec 32) : Prop :=
  (∀ a, (k0_off3 v6) a + S1.size a ≤ S16.size a)
theorem k0_off3_inb : ∀ (v6 : BitVec 32) (k0_hw1 : k0_chk1 v6), ∀ a, (k0_off3 v6) a + S1.size a ≤ S16.size a := fun v6 k0_hw1 => k0_hw1

def k0_off4 (i : grid0.Coords) : Fin 1 → Nat :=
  let arg0 : BitVec 32 := BitVec.ofNat 32 (i 0).val
  let v9 : Index := Scalar.indexCast arg0
  ![v9.toNat]
def k0_cond2 (v14 : BitVec 32) : BitVec 1 :=
  let c1_i32_0 : BitVec 32 := 1#32
  let v15 : BitVec 1 := Scalar.cmpi .eq v14 c1_i32_0
  let v16 : BitVec 32 := Scalar.extui v15
  let c0_i32_1 : BitVec 32 := 0#32
  let v17 : BitVec 1 := Scalar.cmpi .ne v16 c0_i32_1
  v17

def cc0_transform_0 (k0_off1_inb : ∀ i : grid0.Coords, ∀ a, (k0_off1 i) a + S1.size a ≤ S49.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S49) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S49.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S49) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S49.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S49) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S49.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S49) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1408x2816 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S17408x1408 : Shape := ⟨2, ![17408, 1408]⟩
abbrev S16 : Shape := ⟨1, ![16]⟩
abbrev S16x1408x2816 : Shape := ⟨3, ![16, 1408, 2816]⟩
abbrev S16x2816 : Shape := ⟨2, ![16, 2816]⟩
abbrev S_ : Shape := ⟨0, ![]⟩
abbrev S16x1 : Shape := ⟨2, ![16, 1]⟩
abbrev S17408x2816 : Shape := ⟨2, ![17408, 2816]⟩
abbrev S17408 : Shape := ⟨1, ![17408]⟩
abbrev S17408x1 : Shape := ⟨2, ![17408, 1]⟩
abbrev S1x384 : Shape := ⟨2, ![1, 384]⟩
abbrev S17408x384 : Shape := ⟨2, ![17408, 384]⟩
abbrev S1x1408x2816 : Shape := ⟨3, ![1, 1408, 2816]⟩
abbrev S1408x2816 : Shape := ⟨2, ![1408, 2816]⟩
abbrev S1x1 : Shape := ⟨2, ![1, 1]⟩
abbrev S1x2816 : Shape := ⟨2, ![1, 2816]⟩

abbrev nBuf : Space → Nat
  | .hbm => 11
  | .vmem => 6
  | .smem => 0
  | _ => 0

abbrev bufTy : (tb : Table) → Fin (tcTables nBuf tb) → BufTy
  | .hbm, ⟨0, _⟩ => ⟨S17408x1408, .bf16⟩
  | .hbm, ⟨1, _⟩ => ⟨S16, .i32⟩
  | .hbm, ⟨2, _⟩ => ⟨S16x1408x2816, .fp8e4m3⟩
  | .hbm, ⟨3, _⟩ => ⟨S16x2816, .f32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16x1, .i32⟩
  | .hbm, ⟨9, _⟩ => ⟨S16x1, .i32⟩
  | .hbm, ⟨10, _⟩ => ⟨S17408x2816, .bf16⟩
  | .local _ .vmem, ⟨0, _⟩ => ⟨S17408x1408, .bf16⟩
  | .local _ .vmem, ⟨1, _⟩ => ⟨S16x1, .i32⟩
  | .local _ .vmem, ⟨2, _⟩ => ⟨S16x1, .i32⟩
  | .local _ .vmem, ⟨3, _⟩ => ⟨S16x1408x2816, .fp8e4m3⟩
  | .local _ .vmem, ⟨4, _⟩ => ⟨S16x2816, .f32⟩
  | .local _ .vmem, ⟨5, _⟩ => ⟨S17408x2816, .bf16⟩
  | _, _ => ⟨S17408x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S17408x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1408x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S17408x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Sched.lean ====
module

public import Mathlib.Algebra.BigOperators.Group.Finset.Basic
public import Mathlib.Algebra.Order.BigOperators.Group.Finset
public import Mathlib.Tactic.Linarith

/-! The order in which the steps visit the row tiles and the experts, in plain natural numbers. -/

@[expose] public section

namespace Sched

open Finset

/-- How many of `f 0, …, f (n-1)` are at most `t`. -/
def cnt (f : ℕ → ℕ) (n t : ℕ) : ℕ := ((range n).filter fun g => f g ≤ t).card

/-- For a monotone sequence the entries at most `t` are exactly the first `cnt` of them. -/
theorem lt_cnt (f : ℕ → ℕ) (hf : Monotone f) (n t g : ℕ) (hg : g < n) : g < cnt f n t ↔ f g ≤ t := by
  constructor
  · intro h
    by_contra hc
    have hs : ((range n).filter fun g => f g ≤ t) ⊆ range g := by
      intro j hj
      rw [mem_filter] at hj
      rw [mem_range]
      by_contra hjg
      exact hc ((hf (not_lt.mp hjg)).trans hj.2)
    have := card_le_card hs
    rw [card_range] at this
    exact absurd h (by unfold cnt; omega)
  · intro h
    have hs : range (g + 1) ⊆ ((range n).filter fun g => f g ≤ t) := by
      intro j hj
      rw [mem_range] at hj
      rw [mem_filter, mem_range]
      exact ⟨by omega, (hf (by omega : j ≤ g)).trans h⟩
    have := card_le_card hs
    rw [card_range] at this
    unfold cnt
    omega

theorem cnt_le (f : ℕ → ℕ) (n t : ℕ) : cnt f n t ≤ n := by
  have := card_filter_le (range n) fun g => f g ≤ t
  rw [card_range] at this
  exact this

variable (s : ℕ → ℕ)

/-- The first row of expert `g`: the sizes before it added up. -/
def S (g : ℕ) : ℕ := ∑ j ∈ range g, s j

/-- The tiles expert `g` visits. -/
def v (g : ℕ) : ℕ := if 0 < s g then (S s (g + 1) + 511) / 512 - S s g / 512 else 0

/-- The steps before expert `g`. -/
def B (g : ℕ) : ℕ := ∑ j ∈ range g, v s j

/-- The number of live steps. -/
def T : ℕ := B s 16

/-- The expert that owns row `R`. -/
def ex (R : ℕ) : ℕ := cnt (fun g => S s (g + 1)) 16 R

/-- The expert of live step `t`. -/
def G (t : ℕ) : ℕ := cnt (fun g => B s (g + 1)) 16 t

/-- The expert of step `t`, the last live one's after the end. -/
def gt (t : ℕ) : ℕ := G s (min t (T s - 1))

/-- The tile of step `t`. -/
def tl (t : ℕ) : ℕ := S s (gt s t) / 512 + min t (T s - 1) - B s (gt s t)

theorem S_succ (g : ℕ) : S s (g + 1) = S s g + s g := sum_range_succ ..
theorem B_succ (g : ℕ) : B s (g + 1) = B s g + v s g := sum_range_succ ..
theorem S_zero : S s 0 = 0 := rfl
theorem B_zero : B s 0 = 0 := rfl

theorem S_mono : Monotone (S s) := monotone_nat_of_le_succ fun g => by rw [S_succ]; omega
theorem B_mono : Monotone (B s) := monotone_nat_of_le_succ fun g => by rw [B_succ]; omega
theorem S_mono' : Monotone fun g => S s (g + 1) := fun _ _ h => S_mono s (by omega)
theorem B_mono' : Monotone fun g => B s (g + 1) := fun _ _ h => B_mono s (by omega)

theorem s_of_v (g : ℕ) (h : v s g = 0) : s g = 0 := by
  unfold v at h
  split at h
  · rw [S_succ] at h; omega
  · omega

/-- No steps between two experts means no rows between them. -/
theorem S_eq_of_B (a b : ℕ) (hab : a ≤ b) (h : B s b = B s a) : S s b = S s a := by
  induction b, hab using Nat.le_induction with
  | base => rfl
  | succ n hn ih =>
    have h1 := B_mono s hn
    rw [B_succ] at h
    have h2 : v s n = 0 := by omega
    rw [S_succ, s_of_v s n h2, ih (by omega)]
    rfl

variable (hs : S s 16 = 17408)

theorem T_bound (m : ℕ) : (S s m = 0 ∧ B s m = 0) ∨ B s m + 1 ≤ (S s m + 511) / 512 + m := by
  induction m with
  | zero => exact .inl ⟨rfl, rfl⟩
  | succ m ih =>
    have hv : v s m = if 0 < s m then (S s (m + 1) + 511) / 512 - S s m / 512 else 0 := rfl
    rw [S_succ, B_succ]
    rw [S_succ] at hv
    split at hv
    · right
      rcases ih with ⟨h1, h2⟩ | h
      · rw [h1] at hv ⊢; rw [h2]; omega
      · omega
    · rcases ih with ⟨h1, h2⟩ | h
      · left; omega
      · right; omega

include hs

theorem T_le : T s ≤ 49 := by
  have := T_bound s 16
  unfold T
  omega

theorem T_pos : 0 < T s := by
  by_contra h
  have := S_eq_of_B s 0 16 (by omega) (by rw [B_zero]; unfold T at h; omega)
  rw [S_zero] at this
  omega

theorem G_lt (t : ℕ) (ht : t < T s) : G s t < 16 := by
  by_contra h
  have : B s 16 ≤ t := (lt_cnt _ (B_mono' s) 16 t 15 (by omega)).1 (by unfold G at h; omega)
  unfold T at ht
  omega

theorem B_lt (t : ℕ) (ht : t < T s) : t < B s (G s t + 1) := by
  by_contra h
  have := (lt_cnt _ (B_mono' s) 16 t (G s t) (G_lt s hs t ht)).2 (by omega)
  unfold G at this
  omega

theorem B_le (t : ℕ) (ht : t < T s) : B s (G s t) ≤ t := by
  rcases Nat.eq_zero_or_pos (G s t) with h | h
  · rw [h, B_zero]; omega
  · have := (lt_cnt _ (B_mono' s) 16 t (G s t - 1) (by have := G_lt s hs t ht; omega)).1 (by unfold G at h ⊢; omega)
    rwa [Nat.sub_add_cancel h] at this

/-- The visits of the expert of a live step, spelt out. -/
theorem v_G (t : ℕ) (ht : t < T s) :
    B s (G s t + 1) = B s (G s t) + ((S s (G s t + 1) + 511) / 512 - S s (G s t) / 512) := by
  have h1 := B_lt s hs t ht
  have h2 := B_le s hs t ht
  have hv : v s (G s t) = if 0 < s (G s t) then (S s (G s t + 1) + 511) / 512 - S s (G s t) / 512 else 0 := rfl
  rw [B_succ] at h1 ⊢
  split at hv
  · rw [hv]
  · omega

theorem S_le (g : ℕ) (hg : g ≤ 16) : S s g ≤ 17408 := hs ▸ S_mono s hg

/-- The step after a live one either stays with the expert and moves one tile on, or goes to the
next expert that has rows. -/
theorem G_succ (t : ℕ) (ht : t + 1 < T s) :
    G s (t + 1) = G s t ∨ (B s (G s (t + 1)) = t + 1 ∧ B s (G s t + 1) = t + 1 ∧ S s (G s (t + 1)) = S s (G s t + 1)) := by
  rcases lt_trichotomy (G s (t + 1)) (G s t) with h | h | h
  · exfalso
    have h1 := B_lt s hs (t + 1) ht
    have h2 := B_le s hs t (by omega)
    have h3 := B_mono s (by omega : G s (t + 1) + 1 ≤ G s t)
    omega
  · exact .inl h
  · have h1 := B_lt s hs t (by omega)
    have h2 := B_le s hs (t + 1) ht
    have h3 := B_mono s (by omega : G s t + 1 ≤ G s (t + 1))
    have e1 : B s (G s (t + 1)) = t + 1 := by omega
    have e2 : B s (G s t + 1) = t + 1 := by omega
    exact .inr ⟨e1, e2, S_eq_of_B s _ _ (by omega) (by omega)⟩

theorem gt_live (t : ℕ) (ht : t < T s) : gt s t = G s t := by
  unfold gt; rw [min_eq_left (by omega)]

theorem tl_live (t : ℕ) (ht : t < T s) : tl s t = S s (G s t) / 512 + t - B s (G s t) := by
  unfold tl; rw [gt_live s hs t ht, min_eq_left (by omega)]

theorem gt_idle (t : ℕ) (ht : T s ≤ t) : gt s t = G s (T s - 1) := by
  unfold gt; rw [min_eq_right (by omega)]

theorem tl_idle (t : ℕ) (ht : T s ≤ t) : tl s t = tl s (T s - 1) := by
  unfold tl gt; rw [min_eq_right (by omega), min_self]

theorem gt_lt (t : ℕ) : gt s t < 16 := G_lt s hs _ (by have := T_pos s hs; omega)

theorem tl_lt (t : ℕ) : tl s t < 34 := by
  have hp := T_pos s hs
  have key : ∀ t, t < T s → tl s t < 34 := by
    intro t ht
    rw [tl_live s hs t ht]
    have h1 := B_lt s hs t ht
    have h2 := B_le s hs t ht
    have h3 := v_G s hs t ht
    have h4 := S_le s hs (G s t + 1) (G_lt s hs t ht)
    omega
  rcases lt_or_ge t (T s) with h | h
  · exact key t h
  · rw [tl_idle s hs t h]; exact key _ (by omega)

/-- What one live step does to the next: the tile stays or moves on by one. -/
theorem tl_succ_live (t : ℕ) (ht : t + 1 < T s) :
    (tl s (t + 1) = tl s t + 1 ∧ S s (G s (t + 1)) ≤ 512 * tl s (t + 1) ∧ 512 * (tl s t + 1) ≤ S s (G s t + 1)) ∨
      (tl s (t + 1) = tl s t ∧ S s (G s (t + 1)) = S s (G s t + 1)) := by
  rw [tl_live s hs (t + 1) ht, tl_live s hs t (by omega)]
  have h1 := B_lt s hs t (by omega)
  have h2 := B_le s hs t (by omega)
  have h3 := v_G s hs t (by omega)
  have h1' := B_lt s hs (t + 1) ht
  have h2' := B_le s hs (t + 1) ht
  rcases G_succ s hs t ht with h | ⟨a, b, c⟩
  · rw [h] at h1' h2' ⊢
    left
    omega
  · rw [c, a]
    omega

theorem tl_zero : tl s 0 = 0 ∧ S s (gt s 0) = 0 := by
  have hp := T_pos s hs
  have h2 := B_le s hs 0 hp
  have h3 := S_eq_of_B s 0 (G s 0) (by omega) (by rw [B_zero]; omega)
  rw [S_zero] at h3
  rw [tl_live s hs 0 hp, gt_live s hs 0 hp, h3]
  omega

theorem last_S : S s (G s (T s - 1) + 1) = 17408 := by
  have hp := T_pos s hs
  have h1 := B_lt s hs (T s - 1) (by omega)
  have h4 := G_lt s hs (T s - 1) (by omega)
  have h3 := B_mono s (by omega : G s (T s - 1) + 1 ≤ 16)
  rw [← hs]
  refine (S_eq_of_B s _ _ (by omega) ?_).symm
  unfold T at h1 h3 hp ⊢
  omega

theorem tl_last : tl s (T s - 1) = 33 := by
  have hp := T_pos s hs
  have h := last_S s hs
  have h1 := B_lt s hs (T s - 1) (by omega)
  have h2 := B_le s hs (T s - 1) (by omega)
  have h3 := v_G s hs (T s - 1) (by omega)
  have h4 := B_mono s (by have := G_lt s hs (T s - 1) (by omega); omega : G s (T s - 1) + 1 ≤ 16)
  rw [tl_live s hs _ (by omega)]
  rw [h] at h3
  unfold T at h1 h2 h3 h4 hp ⊢
  omega

theorem T_le_of_idle (t : ℕ) (ht : T s ≤ t) : 0 < t ∧ tl s t = tl s (t - 1) ∧ gt s t = gt s (t - 1) := by
  have hp := T_pos s hs
  refine ⟨by omega, ?_, ?_⟩
  · unfold tl gt; rw [min_eq_right (by omega), min_eq_right (by omega)]
  · unfold gt; rw [min_eq_right (by omega), min_eq_right (by omega)]

/-- A step that opens a tile starts no later than the tile does. -/
theorem opens (t : ℕ) (h : t = 0 ∨ tl s t ≠ tl s (t - 1)) : t < T s ∧ S s (gt s t) ≤ 512 * tl s t := by
  have hp := T_pos s hs
  rcases Nat.eq_zero_or_pos t with h0 | h0
  · subst h0
    exact ⟨hp, by rw [(tl_zero s hs).2]; omega⟩
  · have hl : t < T s := by
      by_contra hc
      have := (T_le_of_idle s hs t (by omega)).2.1
      omega
    refine ⟨hl, ?_⟩
    obtain ⟨u, rfl⟩ : ∃ u, t = u + 1 := ⟨t - 1, by omega⟩
    rw [Nat.add_sub_cancel] at h
    rw [gt_live s hs _ hl]
    rcases tl_succ_live s hs u hl with a | a <;> omega

/-- A live step that stays in the tile goes on where the expert before it ended. -/
theorem stays (t : ℕ) (h0 : 0 < t) (hl : t < T s) (h : tl s t = tl s (t - 1)) :
    S s (gt s t) = S s (gt s (t - 1) + 1) := by
  obtain ⟨u, rfl⟩ : ∃ u, t = u + 1 := ⟨t - 1, by omega⟩
  rw [Nat.add_sub_cancel] at h ⊢
  rw [gt_live s hs _ hl, gt_live s hs u (by omega)]
  rcases tl_succ_live s hs u hl with a | a <;> omega

/-- A step that closes a tile reaches the end of the tile. -/
theorem closes (t : ℕ) (h : tl s (t + 1) ≠ tl s t ∨ T s ≤ t + 1) : 512 * (tl s t + 1) ≤ S s (gt s t + 1) := by
  have hp := T_pos s hs
  rcases lt_or_ge (t + 1) (T s) with hl | hl
  · rw [gt_live s hs t (by omega)]
    rcases tl_succ_live s hs t hl with a | a <;> omega
  · have e1 : gt s t = G s (T s - 1) := by unfold gt; rw [min_eq_right (by omega)]
    have e2 : tl s t = tl s (T s - 1) := by unfold tl gt; rw [min_eq_right (by omega), min_self]
    rw [e1, e2, last_S s hs, tl_last s hs]

theorem tl_succ (t : ℕ) : tl s (t + 1) = tl s t ∨ tl s (t + 1) = tl s t + 1 := by
  rcases lt_or_ge (t + 1) (T s) with hl | hl
  · rcases tl_succ_live s hs t hl with a | a <;> omega
  · exact .inl (T_le_of_idle s hs (t + 1) hl).2.1

/-- Every tile is closed by some step. -/
theorem covers (k : ℕ) (hk : k < 34) : ∃ t, t < 49 ∧ tl s t = k ∧ (t + 1 = 49 ∨ tl s (t + 1) ≠ tl s t) := by
  have h48 : tl s 48 = 33 := by
    have := T_le s hs
    have hp := T_pos s hs
    rcases lt_or_ge 48 (T s) with h | h
    · have : T s - 1 = 48 := by omega
      rw [← this]; exact tl_last s hs
    · rw [tl_idle s hs 48 h]; exact tl_last s hs
  have key : ∀ n, n ≤ 48 → tl s (48 - n) ≤ k → ∃ t, t < 49 ∧ tl s t = k ∧ (t + 1 = 49 ∨ tl s (t + 1) ≠ tl s t) := by
    intro n
    induction n with
    | zero => intro _ h; rw [Nat.sub_zero] at h; exact ⟨48, by omega, by omega, .inl rfl⟩
    | succ n ih =>
      intro hn h
      rcases Nat.lt_or_ge k (tl s (48 - n)) with hlt | hge
      · have h1 := tl_succ s hs (48 - (n + 1))
        have e : 48 - (n + 1) + 1 = 48 - n := by omega
        rw [e] at h1
        exact ⟨48 - (n + 1), by omega, by omega, .inr (by rw [e]; omega)⟩
      · exact ih (by omega) hge
  exact key 48 le_rfl (by rw [Nat.sub_self, (tl_zero s hs).1]; omega)

omit hs in
theorem le_ex (R g : ℕ) (hg : g ≤ 16) (h : S s g ≤ R) : g ≤ ex s R := by
  rcases Nat.eq_zero_or_pos g with h0 | h0
  · omega
  · have := (lt_cnt _ (S_mono' s) 16 R (g - 1) (by omega)).2 (by rwa [Nat.sub_add_cancel h0])
    unfold ex
    omega

omit hs in
theorem ex_le (R g : ℕ) (hg : g < 16) (h : R < S s (g + 1)) : ex s R ≤ g := by
  by_contra hc
  have := (lt_cnt _ (S_mono' s) 16 R g hg).1 (by unfold ex at hc; omega)
  omega

/-- The expert of a row is the one whose rows it lies in. -/
theorem ex_spec (R : ℕ) (hR : R < 17408) : ex s R < 16 ∧ S s (ex s R) ≤ R ∧ R < S s (ex s R + 1) := by
  have h15 : ex s R ≤ 15 := ex_le s R 15 (by omega) (by rw [hs]; exact hR)
  refine ⟨by omega, ?_, ?_⟩
  · rcases Nat.eq_zero_or_pos (ex s R) with h | h
    · rw [h, S_zero]; omega
    · have := (lt_cnt _ (S_mono' s) 16 R (ex s R - 1) (by omega)).1 (by unfold ex at h ⊢; omega)
      rwa [Nat.sub_add_cancel h] at this
  · by_contra hc
    have := le_ex s R (ex s R + 1) (by omega) (by omega)
    omega

end Sched
-- ==== Proof.Tables.lean ====
module

public import proofs.«01_k».proof.Proof.Sched
public import Idealize.ShloMosaic.Lib.Routing.Words
public import Idealize.ShloMosaic.Lib.Routing.OpsSet
public import Idealize.ShloMosaic.Lib.Pointwise.SelectCore
public import Idealize.ShloMosaic.Lib.StableHlo.Predicate

/-! The five scalar tables the host computes from the group sizes, and the numbers they hold. -/

@[expose] public section

set_option maxRecDepth 16384

noncomputable section

namespace Tables

open Idealize.ShloMosaic hiding ix0 ix1 ix2
open Idealize.ShloMosaic.ValueIdx Idealize.ShloMosaic.Routing Idealize.ShloMosaic.WordCmp

theorem b16 : shape0.BroadcastsInDim (shape1 16) (![] : Fin 0 → Fin (shape1 16).rank) := by decide
theorem b49 : shape0.BroadcastsInDim (shape1 49) (![] : Fin 0 → Fin (shape1 49).rank) := by decide
theorem b1 : shape0.BroadcastsInDim (shape1 1) (![] : Fin 0 → Fin (shape1 1).rank) := by decide
theorem b00 : shape0.BroadcastsInDim shape0 (![] : Fin 0 → Fin shape0.rank) := by decide
theorem hu : 0 < shape0.numel := by decide
theorem rw16 : (shape1 16).ReduceWindows (![16] : Fin 1 → Nat) ![1] ![15] ![0] (shape1 16) := by decide
theorem row49 : (shape1 49).BroadcastsInDim (shape2 1 49) (![1] : Fin 1 → Fin (shape2 1 49).rank) := by decide
theorem col16 : (shape1 16).BroadcastsInDim (shape2 16 1) (![0] : Fin 1 → Fin (shape2 16 1).rank) := by decide
theorem cols : (shape2 16 1).BroadcastsInDim (shape2 16 49) (![0, 1] : Fin 2 → Fin (shape2 16 49).rank) := by decide
theorem rows : (shape2 1 49).BroadcastsInDim (shape2 16 49) (![0, 1] : Fin 2 → Fin (shape2 16 49).rank) := by decide
theorem red : (shape2 16 49).ReducesTo [0] (shape1 49) := by decide
theorem h132 : 1 < 32 := by decide
theorem col49 : (shape1 49).BroadcastsInDim (shape2 49 1) (![0] : Fin 1 → Fin (shape2 49 1).rank) := by decide
theorem sl15 : (shape1 16).Slices ![15] (shape1 1) := by decide
theorem sc1 : (shape1 1).ShapeCasts shape0 := by decide
theorem sl48 : (shape1 49).Slices ![0] (shape1 48) := by decide
theorem cc : Shape.Concatenates [shape1 1, shape1 48] (shape1 49) 0 := by decide

def gd49 : GatherDims (shape1 49) (shape2 49 1) (shape1 49) where
  offsetDims := []
  collapsedSliceDims := [0]
  operandBatchingDims := []
  startIndicesBatchingDims := []
  startIndexMap := [0]
  indexVectorDim := 1
  sliceSizes := ![1]
  wf := by decide
def gd16 : GatherDims (shape1 16) (shape2 49 1) (shape1 49) where
  offsetDims := []
  collapsedSliceDims := [0]
  operandBatchingDims := []
  startIndicesBatchingDims := []
  startIndexMap := [0]
  indexVectorDim := 1
  sliceSizes := ![1]
  wf := by decide

variable (x : IVec (shape1 16) 32)

/-- The running sums. -/
def cums (x : IVec (shape1 16) 32) : IVec (shape1 16) 32 :=
  Host.reduceWindow IntOp.addi ![16] ![1] ![15] ![0] x (broadcastInDim shape0 ![] b00 (constantI shape0 32 0#32)) rw16 hu
/-- Each group's first row. -/
def starts : IVec (shape1 16) 32 := subi (cums x) x
/-- The tile of each group's first row. -/
def firstTile : IVec (shape1 16) 32 := pyDiv b16 (starts x) (constantI shape0 32 512#32)
/-- The number of tiles each group touches. -/
def visits : IVec (shape1 16) 32 :=
  select (cmpi .sgt x (broadcastInDim (shape1 16) ![] b16 (constantI shape0 32 0#32)))
    (subi (pyDiv b16 (subi (addi (cums x) (broadcastInDim (shape1 16) ![] b16 (constantI shape0 32 512#32)))
      (broadcastInDim (shape1 16) ![] b16 (constantI shape0 32 1#32))) (constantI shape0 32 512#32)) (firstTile x))
    (broadcastInDim (shape1 16) ![] b16 (constantI shape0 32 0#32))
/-- The running number of visits. -/
def vend : IVec (shape1 16) 32 := cums (visits x)
/-- The last live step. -/
def last : IVec shape0 32 := subi (shapeCast shape0 (extractStridedSlice (shape1 1) ![15] (vend x) sl15) sc1) (constantI shape0 32 1#32)
/-- Each step, held at the last live one. -/
def held : IVec (shape1 49) 32 := minsi (iotaInDim (shape1 49) 32 0) (broadcastInDim (shape1 49) ![] b49 (last x))
/-- The group of every step, before holding. -/
def rank : IVec (shape1 49) 32 :=
  minsi (Host.reduce IntOp.addi (extui 32 (cmpi .sle
      (broadcastInDim (shape2 16 49) ![0, 1] cols (broadcastInDim (shape2 16 1) ![0] col16 (vend x)))
      (broadcastInDim (shape2 16 49) ![0, 1] rows (broadcastInDim (shape2 1 49) ![1] row49 (iotaInDim (shape1 49) 32 0)))) h132)
    (constantI shape0 32 0#32) red hu) (broadcastInDim (shape1 49) ![] b49 (constantI shape0 32 15#32))
/-- An index as a take reads it: a negative one counts from the end. -/
def wrap (n : BitVec 32) (y : IVec (shape1 49) 32) : IVec (shape2 49 1) 32 :=
  broadcastInDim (shape2 49 1) ![0] col49
    (select (cmpi .slt y (broadcastInDim (shape1 49) ![] b49 (constantI shape0 32 0#32)))
      (addi y (broadcastInDim (shape1 49) ![] b49 (constantI shape0 32 n))) y)
/-- The group table. -/
def group : IVec (shape1 49) 32 := Host.gather gd49 (rank x) (wrap 49#32 (held x))
/-- The tile table. -/
def tile : IVec (shape1 49) 32 :=
  subi (addi (Host.gather gd16 (firstTile x) (wrap 16#32 (group x))) (held x))
    (Host.gather gd16 (subi (vend x) (visits x)) (wrap 16#32 (group x)))
/-- The table of steps that open a tile. -/
def first : IVec (shape1 49) 32 :=
  extui 32 (cmpi .ne (tile x) (concatenate (shape1 49) 0
    [⟨shape1 1, broadcastInDim (shape1 1) ![] b1 (constantI shape0 32 4294967295#32)⟩,
     ⟨shape1 48, extractStridedSlice (shape1 48) ![0] (tile x) sl48⟩] cc)) h132
/-- The table of live steps. -/
def live : IVec (shape1 49) 32 :=
  extui 32 (cmpi .sle (iotaInDim (shape1 49) 32 0) (broadcastInDim (shape1 49) ![] b49 (last x))) h132

/-- The group sizes as numbers. -/
def sz (x : IVec (shape1 16) 32) (g : ℕ) : ℕ := if h : g < 16 then (x (ix1 ⟨g, h⟩)).toNat else 0

theorem list_sum (f : ℕ → ℕ) (n : ℕ) : ((List.range n).map f).sum = ∑ i ∈ Finset.range n, f i := by
  induction n with
  | zero => rfl
  | succ n ih => rw [List.range_succ, List.map_append, List.sum_append, ih, Finset.sum_range_succ]; simp

theorem cums_ap (y : IVec (shape1 16) 32) (f : ℕ → ℕ) (hy : ∀ i : Fin 16, y (ix1 i) = BitVec.ofNat 32 (f i.val)) (j : Fin 16) :
    cums y (ix1 j) = BitVec.ofNat 32 (∑ i ∈ Finset.range (j.val + 1), f i) := by
  rw [← list_sum]
  exact cumsum1 (by decide) y f hy _ rfl rw16 hu j

theorem sz_ap (i : Fin 16) : x (ix1 i) = BitVec.ofNat 32 (sz x i.val) := by
  unfold sz
  rw [dif_pos i.isLt, BitVec.ofNat_toNat, BitVec.setWidth_eq]

variable (hs : Sched.S (sz x) 16 = 17408)

include hs

theorem S_bd (j : ℕ) (hj : j ≤ 16) : Sched.S (sz x) j ≤ 17408 := hs ▸ Sched.S_mono (sz x) hj

theorem starts_ap (i : Fin 16) : starts x (ix1 i) = BitVec.ofNat 32 (Sched.S (sz x) i.val) := by
  unfold starts
  rw [subi_ap, cums_ap x (sz x) (sz_ap x) i, sz_ap x i]
  show BitVec.ofNat 32 (Sched.S (sz x) (i.val + 1)) - _ = _
  rw [Sched.S_succ, ofNat32_sub (by omega)]
  congr 1; omega

theorem firstTile_ap (i : Fin 16) : firstTile x (ix1 i) = BitVec.ofNat 32 (Sched.S (sz x) i.val / 512) := by
  have := S_bd x hs i.val (by omega)
  exact pyDiv_ap b16 (starts x) _ (ix1 i) (starts_ap x hs i) rfl (by omega) (by decide) (by decide)

theorem visits_ap (i : Fin 16) : visits x (ix1 i) = BitVec.ofNat 32 (Sched.v (sz x) i.val) := by
  have h1 := S_bd x hs (i.val + 1) (by omega)
  have h0 := S_bd x hs i.val (by omega)
  have h2 := Sched.S_succ (sz x) i.val
  unfold visits
  rw [select_at, cmpi_at, subi_ap, firstTile_ap x hs i, bc0, constantI_at, sz_ap x i]
  rw [pyDiv_ap b16 _ _ (ix1 i) (a := Sched.S (sz x) (i.val + 1) + 511) (b := 512) ?_ rfl (by omega) (by decide) (by decide)]
  · rw [show (0#32 : BitVec 32) = BitVec.ofNat 32 0 from rfl, cmpi_sgt_ofNat (w := 32) (by omega) (by decide), select_decide,
      ofNat32_sub (by omega)]
    unfold Sched.v
    split <;> rfl
  · rw [subi_ap, addi_ap, bc0, bc0, constantI_at, constantI_at, cums_ap x (sz x) (sz_ap x) i]
    show BitVec.ofNat 32 (Sched.S (sz x) (i.val + 1)) + BitVec.ofNat 32 512 - BitVec.ofNat 32 1 = _
    rw [BitVec.ofNat_add_ofNat, ofNat32_sub (by omega)]
    rfl

theorem vend_ap (i : Fin 16) : vend x (ix1 i) = BitVec.ofNat 32 (Sched.B (sz x) (i.val + 1)) :=
  cums_ap (visits x) (Sched.v (sz x)) (visits_ap x hs) i

theorem B_bd (j : ℕ) (hj : j ≤ 16) : Sched.B (sz x) j ≤ 49 :=
  le_trans (Sched.B_mono (sz x) hj) (Sched.T_le (sz x) hs)

theorem last_ap : last x ix0 = BitVec.ofNat 32 (Sched.T (sz x) - 1) := by
  have hp := Sched.T_pos (sz x) hs
  unfold last
  rw [subi_ap, constantI_at]
  have e : shapeCast shape0 (extractStridedSlice (shape1 1) ![15] (vend x) sl15) sc1 ix0 = BitVec.ofNat 32 (Sched.T (sz x)) := by
    have e1 : ∀ z : (shape1 1).Idx → BitVec 32, shapeCast shape0 z sc1 ix0 = z (ix1 0) := by
      intro z
      unfold shapeCast
      refine congrArg z (funext fun a => Fin.ext ?_)
      match a with
      | ⟨0, _⟩ =>
        have := ((shape1 1).rowMajor.symm ((shape0).rowMajor ix0 |>.cast sc1) 0).isLt
        first
          | omega
          | (have h1 : ∀ q : Fin 1, q.val = 0 := by decide
             exact h1 _)
    rw [e1, slice1 15 (vend x) sl15 0 (by decide)]
    exact vend_ap x hs 15
  rw [e, show (1#32 : BitVec 32) = BitVec.ofNat 32 1 from rfl, ofNat32_sub (by omega)]

omit hs in
theorem min_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · simp [h, Nat.min_eq_left h.le]
  · simp [h, Nat.min_eq_right (Nat.le_of_not_lt h)]

omit hs in
theorem minsi_ap {s : Shape} (y z : IVec s 32) (i : s.Idx) : minsi y z i = IntOp.minsi (y i) (z i) := rfl

theorem held_ap (t : Fin 49) : held x (ix1 t) = BitVec.ofNat 32 (min t.val (Sched.T (sz x) - 1)) := by
  have hp := Sched.T_le (sz x) hs
  unfold held
  rw [minsi_ap, bc0, iota1_ap, last_ap x hs, min_word (by omega) (by omega)]

theorem rank_ap (t : Fin 49) : rank x (ix1 t) = BitVec.ofNat 32 (min (Sched.G (sz x) t.val) 15) := by
  unfold rank
  rw [minsi_ap, bc0, constantI_at]
  have hc := StableHlo.Predicate.toNat_reduce_count_rows (n := 16) (m := 49) (by decide) (cmpi .sle
      (broadcastInDim (shape2 16 49) ![0, 1] cols (broadcastInDim (shape2 16 1) ![0] col16 (vend x)))
      (broadcastInDim (shape2 16 49) ![0, 1] rows (broadcastInDim (shape2 1 49) ![1] row49 (iotaInDim (shape1 49) 32 0)))) h132 red hu (ix1 t)
  have hcard : (Finset.univ.filter fun p : Fin 16 => (cmpi .sle
      (broadcastInDim (shape2 16 49) ![0, 1] cols (broadcastInDim (shape2 16 1) ![0] col16 (vend x)))
      (broadcastInDim (shape2 16 49) ![0, 1] rows (broadcastInDim (shape2 1 49) ![1] row49 (iotaInDim (shape1 49) 32 0))))
        (StableHlo.Predicate.ij p ((ix1 t : (shape1 49).Idx) 0)) = 1#1).card = Sched.G (sz x) t.val := by
    unfold Sched.G Sched.cnt
    refine Finset.card_bij (fun p _ => p.val) ?_ ?_ ?_
    · intro p hp
      have hp := (Finset.mem_filter.1 hp).2
      rw [ij_eq_ix2, cmpi_at, bcRows, bcCols, iota1_ap, vend_ap x hs p] at hp
      have hb := B_bd x hs (p.val + 1) (by omega)
      rw [cmpi_sle_ofNat_eq_one_iff (w := 32) (by omega) (by have := t.isLt; omega)] at hp
      exact Finset.mem_filter.2 ⟨Finset.mem_range.2 p.isLt, hp⟩
    · intro p _ q _ e
      exact Fin.ext e
    · intro g hg
      have hg1 := Finset.mem_range.1 (Finset.mem_filter.1 hg).1
      have hg2 := (Finset.mem_filter.1 hg).2
      refine ⟨⟨g, hg1⟩, Finset.mem_filter.2 ⟨Finset.mem_univ _, ?_⟩, rfl⟩
      have hb := B_bd x hs (g + 1) (by omega)
      rw [ij_eq_ix2, cmpi_at, bcRows, bcCols, iota1_ap, vend_ap x hs ⟨g, hg1⟩]
      rw [cmpi_sle_ofNat_eq_one_iff (w := 32) (by simpa using (by omega : Sched.B (sz x) (g + 1) < 2147483648)) (by have := t.isLt; simp; omega)]
      exact hg2
  rw [hcard] at hc
  have hG : Sched.G (sz x) t.val ≤ 16 := Sched.cnt_le _ _ _
  rw [(BitVec.eq_of_toNat_eq (by rw [hc, BitVec.toNat_ofNat, Nat.mod_eq_of_lt (by omega)]) :
    Host.reduce IntOp.addi _ (constantI shape0 32 0#32) red hu (ix1 t) = BitVec.ofNat 32 (Sched.G (sz x) t.val)),
    show (15#32 : BitVec 32) = BitVec.ofNat 32 15 from rfl, min_word (by omega) (by decide)]

omit hs in
theorem wrap_ap (n : BitVec 32) (y : IVec (shape1 49) 32) (t : Fin 49) (a : ℕ) (ha : a < 2 ^ 31) (hy : y (ix1 t) = BitVec.ofNat 32 a) :
    wrap n y (ix2 t (0 : Fin 1)) = BitVec.ofNat 32 a := by
  unfold wrap
  rw [bcCol, select_at, cmpi_at, bc0, constantI_at, hy, show (0#32 : BitVec 32) = BitVec.ofNat 32 0 from rfl,
    cmpi_slt_ofNat (w := 32) ha (by decide), select_decide, if_neg (Nat.not_lt_zero _)]

theorem group_ap (t : Fin 49) : group x (ix1 t) = BitVec.ofNat 32 (Sched.gt (sz x) t.val) := by
  have hT := Sched.T_le (sz x) hs
  have ht := t.isLt
  unfold group
  have hb : min t.val (Sched.T (sz x) - 1) < 49 := by omega
  rw [gather_take1 gd49 rfl rfl rfl rfl (rank x) _ t ⟨min t.val (Sched.T (sz x) - 1), hb⟩
    (wrap_ap _ _ t _ (by omega) (held_ap x hs t)) (by decide), rank_ap x hs]
  have hg := Sched.gt_lt (sz x) hs t.val
  unfold Sched.gt at hg ⊢
  congr 1
  show min (Sched.G (sz x) (min t.val (Sched.T (sz x) - 1))) 15 = _
  omega

theorem base_ap (i : Fin 16) : subi (vend x) (visits x) (ix1 i) = BitVec.ofNat 32 (Sched.B (sz x) i.val) := by
  have e := Sched.B_succ (sz x) i.val
  rw [subi_ap, vend_ap x hs, visits_ap x hs, ofNat32_sub (by omega)]
  congr 1
  omega

theorem take_ap (y : IVec (shape1 16) 32) (t : Fin 49) (f : ℕ → ℕ) (hy : ∀ i : Fin 16, y (ix1 i) = BitVec.ofNat 32 (f i.val)) :
    Host.gather gd16 y (wrap 16#32 (group x)) (ix1 t) = BitVec.ofNat 32 (f (Sched.gt (sz x) t.val)) := by
  have hg := Sched.gt_lt (sz x) hs t.val
  obtain ⟨g, hgd⟩ : ∃ g, g = Sched.gt (sz x) t.val := ⟨_, rfl⟩
  have hw := wrap_ap 16#32 (group x) t g (by omega) (by rw [hgd]; exact group_ap x hs t)
  rw [← hgd] at hg ⊢
  rw [gather_take1 gd16 rfl rfl rfl rfl y _ t ⟨g, hg⟩ hw (by decide), hy]

theorem tile_ap (t : Fin 49) : tile x (ix1 t) = BitVec.ofNat 32 (Sched.tl (sz x) t.val) := by
  have hT := Sched.T_le (sz x) hs
  have hp := Sched.T_pos (sz x) hs
  have ht := t.isLt
  have hb : Sched.B (sz x) (Sched.gt (sz x) t.val) ≤ min t.val (Sched.T (sz x) - 1) :=
    Sched.B_le (sz x) hs (min t.val (Sched.T (sz x) - 1)) (by omega)
  unfold tile
  rw [subi_ap, addi_ap, held_ap x hs, take_ap x hs _ t (fun g => Sched.S (sz x) g / 512) (firstTile_ap x hs),
    take_ap x hs _ t (Sched.B (sz x)) (base_ap x hs), BitVec.ofNat_add_ofNat, ofNat32_sub (by omega)]
  rfl

theorem live_ap (t : Fin 49) : live x (ix1 t) = if t.val < Sched.T (sz x) then 1#32 else 0#32 := by
  have hT := Sched.T_le (sz x) hs
  have hp := Sched.T_pos (sz x) hs
  have ht := t.isLt
  unfold live
  rw [extui_at, cmpi_at, bc0, iota1_ap, last_ap x hs, cmpi_sle_ofNat (w := 32) (by omega) (by omega), setWidth_ofBool]
  by_cases h : t.val < Sched.T (sz x)
  · rw [if_pos h, if_pos (by omega)]
  · rw [if_neg h, if_neg (by omega)]

theorem first_ap (t : Fin 49) :
    first x (ix1 t) = if t.val = 0 ∨ Sched.tl (sz x) t.val ≠ Sched.tl (sz x) (t.val - 1) then 1#32 else 0#32 := by
  have ht := t.isLt
  have hl := Sched.tl_lt (sz x) hs t.val
  have hl' := Sched.tl_lt (sz x) hs (t.val - 1)
  unfold first
  rw [extui_at, cmpi_at, tile_ap x hs, concatenate_pair_apply]
  by_cases h0 : t.val = 0
  · rw [dif_pos (by show t.val < 1; omega), bc0, constantI_at, if_pos (Or.inl h0)]
    rw [show (4294967295#32 : BitVec 32) = BitVec.ofNat 32 4294967295 from rfl, cmpi_ne_ofNat (w := 32) (by omega) (by decide),
      setWidth_ofBool, if_pos (by omega)]
  · rw [dif_neg (by show ¬ t.val < 1; omega)]
    have e : ∀ z : (shape1 48).Idx, (z 0).val = t.val - 1 →
        extractStridedSlice (shape1 48) ![0] (tile x) sl48 z = BitVec.ofNat 32 (Sched.tl (sz x) (t.val - 1)) := by
      intro z hz
      have ez : z = ix1 ⟨t.val - 1, by omega⟩ := by
        funext a
        match a with
        | ⟨0, _⟩ => exact Fin.ext hz
      rw [ez, slice1 0 (tile x) sl48 _ (by show 0 + (t.val - 1) < 49; omega), tile_ap x hs]
      congr 2
      show 0 + (t.val - 1) = _
      omega
    rw [e _ ?h]
    rw [cmpi_ne_ofNat (w := 32) (a := Sched.tl (sz x) t.val) (b := Sched.tl (sz x) (t.val - 1)) (by omega) (by omega), setWidth_ofBool]
    case h =>
      simp only [Shape.Idx.norm_def]
      rfl
    by_cases h : Sched.tl (sz x) t.val ≠ Sched.tl (sz x) (t.val - 1)
    · rw [if_pos h, if_pos (Or.inr h)]
    · rw [if_neg h, if_neg (fun q => q.elim h0 h)]

end Tables
-- ==== Proof.Pre.lean ====
module

public import proofs.«01_k».proof.Proof.Gen.Pre_groups_fill
public import proofs.«01_k».proof.Proof.Tables
public import Idealize.ShloMosaic.Lib.ReduceAll

/-! What the condition on the group sizes says of the numbers. -/

@[expose] public section

set_option maxRecDepth 16384

noncomputable section

namespace PreFacts

open Idealize.ShloMosaic hiding ix0 ix1 ix2
open Idealize.ShloMosaic.ValueIdx Idealize.ShloMosaic.Routing Idealize.ShloMosaic.WordCmp

theorem and_one {p q : BitVec 1} : IntOp.andi p q = 1#1 ↔ p = 1#1 ∧ q = 1#1 := by
  revert p q; decide

instance : Subsingleton (shape0).Idx := ⟨fun y z => funext fun a => a.elim0⟩

theorem b16 : shape0.BroadcastsInDim (shape1 16) (![] : Fin 0 → Fin (shape1 16).rank) := by decide
theorem r16 : (shape1 16).ReducesTo [0] shape0 := by decide

/-- The group sizes are not negative and add up to the number of rows. -/
theorem sum_eq (x : IVec (shape1 16) 32)
    (h1 : Host.reduce IntOp.andi (andi (cmpi .sge x (broadcastInDim (shape1 16) ![] b16 (constantI shape0 32 0#32)))
      (cmpi .sle x (broadcastInDim (shape1 16) ![] b16 (constantI shape0 32 17408#32)))) (constantI shape0 1 1#1) r16 Tables.hu ix0 = 1#1)
    (h2 : cmpi .eq (Host.reduce IntOp.addi x (constantI shape0 32 0#32) r16 Tables.hu) (constantI shape0 32 17408#32) ix0 = 1#1) :
    Sched.S (Tables.sz x) 16 = 17408 := by
  have h1' := Host.reduce_andi_all _ _ r16 Tables.hu ix0 h1
  have hb : ∀ i : Fin 16, (x (ix1 i)).toNat ≤ 17408 := by
    intro i
    have e := h1' (ix1 i)
    rw [andi_at, and_one, cmpi_at, cmpi_at, bc0, bc0, constantI_at, constantI_at] at e
    obtain ⟨e1, e2⟩ := e
    have e1 : (0#32).sle (x (ix1 i)) = true := by
      by_contra hc
      rw [Bool.not_eq_true] at hc
      simp [IntOp.cmpi, hc] at e1
    have e2 : (x (ix1 i)).sle 17408#32 = true := by
      by_contra hc
      rw [Bool.not_eq_true] at hc
      simp [IntOp.cmpi, hc] at e2
    simp only [BitVec.sle, decide_eq_true_eq, BitVec.toInt, BitVec.toNat_ofNat] at e1 e2
    omega
  have hbs : ∀ g, Tables.sz x g ≤ 17408 := by
    intro g
    unfold Tables.sz
    split
    · exact hb _
    · omega
  have hsum := reduce_sum x (Tables.sz x) (Tables.sz_ap x) r16 Tables.hu
  rw [Tables.list_sum] at hsum
  have hle : Sched.S (Tables.sz x) 16 ≤ 16 * 17408 := by
    have := Finset.sum_le_card_nsmul (Finset.range 16) (Tables.sz x) 17408 (fun g _ => hbs g)
    simpa [Sched.S] using this
  rw [cmpi_at, hsum, constantI_at] at h2
  rw [show (17408#32 : BitVec 32) = BitVec.ofNat 32 17408 from rfl] at h2
  change IntOp.cmpi .eq (BitVec.ofNat 32 (Sched.S (Tables.sz x) 16)) _ = _ at h2
  rwa [cmpi_eq_ofNat_eq_one_iff (w := 32) (by omega) (by decide)] at h2

theorem fill {F : FTy → Type} [FloatOps F] [Cert.Pre_groups_fill.Facts] (x0 : FVec F (shape2 17408 1408) .bf16) (x : IVec (shape1 16) 32)
    (x2 : FVec F ⟨3, ![16, 1408, 2816]⟩ .fp8e4m3) (x3 : FVec F (shape2 16 2816) .f32)
    (h : Cert.Pre_groups_fill.fn x0 x x2 x3 = fun _ => 1#1) : Sched.S (Tables.sz x) 16 = 17408 := by
  have e := congrFun h ix0
  obtain ⟨e1, e2⟩ := and_one.1 e
  exact sum_eq x e1 e2

end PreFacts
-- ==== Proof.Scale.lean ====
module

public import Idealize.ShloMosaic.PureOps.Ideal.Laws

/-! The arithmetic of a scaled row: a power of two above the row's greatest magnitude over 448 keeps every code inside the
    clip, and cancels out of the product. -/

@[expose] public section

noncomputable section

namespace Scale

open Idealize.ShloMosaic
open scoped BigOperators

theorem field (k : ℕ) (h2 : k ≤ 254) : (BitVec.ofNat 32 k <<< 23 : BitVec 32).toNat = k * 8388608 := by
  simp only [BitVec.toNat_shiftLeft, BitVec.toNat_ofNat, Nat.shiftLeft_eq]
  omega
theorem field_sign (x : BitVec 32) (k : ℕ) (h2 : k ≤ 254) (h : x.toNat = k * 8388608) : (x.extractLsb' (8 + 23) 1 == 1#1) = false := by
  rw [beq_eq_false_iff_ne]
  intro e
  have e := congrArg BitVec.toNat e
  rw [BitVec.extractLsb'_toNat, Nat.shiftRight_eq_div_pow, h, BitVec.toNat_ofNat] at e
  omega
theorem field_exp (x : BitVec 32) (k : ℕ) (h2 : k ≤ 254) (h : x.toNat = k * 8388608) : (x.extractLsb' 23 8).toNat = k := by
  rw [BitVec.extractLsb'_toNat, Nat.shiftRight_eq_div_pow, h]
  omega
theorem field_frac (x : BitVec 32) (k : ℕ) (h : x.toNat = k * 8388608) : (x.extractLsb' 0 23).toNat = 0 := by
  rw [BitVec.extractLsb'_toNat, Nat.shiftRight_eq_div_pow, h]
  omega
theorem real_pow (k : ℕ) : (1 : ℝ) * ((2 ^ 23 + 0 : ℕ) : ℝ) * (2 : ℝ) ^ ((k : ℤ) - (2 ^ (8 - 1) - 1) - (23 : ℕ)) = (2 : ℝ) ^ ((k : ℤ) - 127) := by
  rw [one_mul, show (((2 ^ 23 + 0 : ℕ)) : ℝ) = 2 ^ (23 : ℤ) by norm_num, ← zpow_add₀ (by norm_num)]
  congr 1
  norm_num
theorem ieee_pow (x : BitVec 32) (k : ℕ) (h1 : 1 ≤ k) (h2 : k ≤ 254) (h : x.toNat = k * 8388608) :
    Ideal.ieee 8 23 x = (((2 : ℝ) ^ ((k : ℤ) - 127) : ℝ) : EReal) := by
  unfold Ideal.ieee
  have a := field_sign x k h2 h
  have b := field_exp x k h2 h
  have d := field_frac x k h
  rw [a, b, d]
  have n1 : ¬ k = 2 ^ 8 - 1 := by omega
  have n2 : ¬ k = 0 := by omega
  rw [if_neg n1, if_neg n2]
  exact congrArg _ (real_pow k)
/-- The word whose exponent field is `k` and whose fraction is zero denotes a power of two. -/
theorem ofBits_pow (k : ℕ) (h1 : 1 ≤ k) (h2 : k ≤ 254) : Ideal.ofBits .f32 (BitVec.ofNat 32 k <<< 23) = (((2 : ℝ) ^ ((k : ℤ) - 127) : ℝ) : EReal) :=
  ieee_pow _ k h1 h2 (field k h2)

/-- The word past the last exponent denotes infinity. -/
theorem ofBits_top : Ideal.ofBits .f32 (0x7F800000#32) = ⊤ := by
  show Ideal.ieee 8 23 (0x7F800000#32) = _
  unfold Ideal.ieee
  simp

theorem ofBits_bot : Ideal.ofBits .f32 (0xFF800000#32) = ⊥ := by
  show Ideal.ieee 8 23 (0xFF800000#32) = _
  unfold Ideal.ieee
  simp

theorem ofBits_one : Ideal.ofBits .f32 (0x3F800000#32) = 1 := by
  show Ideal.ieee 8 23 (0x3F800000#32) = _
  unfold Ideal.ieee
  simp
  rw [← EReal.coe_mul]
  norm_num

/-- The reciprocal of 448 as the program has it: a little above 1/448. -/
def c : ℝ := 9586981 * (2 : ℝ) ^ (-32 : ℤ)
theorem ofBits_c : Ideal.ofBits .f32 (0x3B124925#32) = (c : EReal) := by
  show Ideal.ieee 8 23 (0x3B124925#32) = _
  unfold Ideal.ieee c
  simp
theorem ofBits_448 : Ideal.ofBits .f32 (0x43E00000#32) = ((448 : ℝ) : EReal) := by
  show Ideal.ieee 8 23 (0x43E00000#32) = _
  unfold Ideal.ieee
  simp
  rw [← EReal.coe_mul]
  norm_num
theorem ofBits_n448 : Ideal.ofBits .f32 (0xC3E00000#32) = ((-448 : ℝ) : EReal) := by
  show Ideal.ieee 8 23 (0xC3E00000#32) = _
  unfold Ideal.ieee
  simp
  rw [← EReal.coe_mul]
  norm_num
/-- The greatest finite bfloat16. -/
def B : ℝ := 16711680 * (2 : ℝ) ^ (104 : ℤ)
theorem ofBits_B : Ideal.ofBits .f32 (0x7F7F0000#32) = (B : EReal) := by
  show Ideal.ieee 8 23 (0x7F7F0000#32) = _
  unfold Ideal.ieee B
  simp

theorem c_pos : 0 < c := by unfold c; positivity
theorem one_le_c : 1 ≤ 448 * c := by unfold c; norm_num
theorem B_c : B * c < (2 : ℝ) ^ (120 : ℤ) := by unfold B c; norm_num

/-- A scale that serves a row of greatest magnitude `a`. -/
def Good (a s : EReal) : Prop := ∃ σ : ℝ, 0 < σ ∧ s = (σ : EReal) ∧ a * (c : EReal) < (σ : EReal)

theorem mul_sum {n : ℕ} (f : Fin n → EReal) (σ : ℝ) (h : 0 < σ) : (∑ k, f k) * (σ : EReal) = ∑ k, f k * (σ : EReal) := by
  have : ∀ S : Finset (Fin n), (∑ k ∈ S, f k) * (σ : EReal) = ∑ k ∈ S, f k * (σ : EReal) := by
    intro S
    induction S using Finset.cons_induction with
    | empty => simp
    | cons a S ha ih =>
      rw [Finset.sum_cons, Finset.sum_cons, EReal.right_distrib_of_nonneg_of_ne_top (by exact_mod_cast h.le) (EReal.coe_ne_top _), ih]
  exact this _

/-- A code is the number divided by the scale: the clip changes nothing. -/
theorem clip {a s v : EReal} (g : Good a s) (hv : max v (-v) ≤ a) (ha : a ≤ (B : EReal)) :
    min ((448 : ℝ) : EReal) (max ((-448 : ℝ) : EReal) (v * s⁻¹)) = v * s⁻¹ := by
  obtain ⟨σ, h0, rfl, h1⟩ := g
  have hv1 : v ≤ a := (le_max_left _ _).trans hv
  have hv2 : -v ≤ a := (le_max_right _ _).trans hv
  have t1 : v ≠ ⊤ := fun h => by rw [h] at hv1; exact absurd (hv1.trans ha) (by simp)
  have t2 : v ≠ ⊥ := fun h => by rw [h] at hv2; exact absurd (hv2.trans ha) (by simp)
  lift v to ℝ using ⟨t1, t2⟩
  have tb : a ≠ ⊥ := fun h => by rw [h] at hv1; exact absurd hv1 (by simp)
  have tt : a ≠ ⊤ := fun h => by rw [h] at ha; exact absurd ha (by simp)
  lift a to ℝ using ⟨tt, tb⟩
  have hv1 : v ≤ a := by exact_mod_cast hv1
  have hv2 : -v ≤ a := by exact_mod_cast hv2
  have h1 : a * c < σ := by exact_mod_cast h1
  have hc := one_le_c
  have hc0 := c_pos
  have ha0 : 0 ≤ a := by linarith
  have h2 : a ≤ 448 * σ := by nlinarith
  rw [← EReal.coe_inv, ← EReal.coe_mul]
  have e1 : v * σ⁻¹ ≤ 448 := by rw [← div_eq_mul_inv, div_le_iff₀ h0]; linarith
  have e2 : -448 ≤ v * σ⁻¹ := by rw [← div_eq_mul_inv, le_div_iff₀ h0]; linarith
  rw [max_eq_right (by exact_mod_cast e2), min_eq_right (by exact_mod_cast e1)]

/-- The scale cancels out of the product of the codes. -/
theorem row {a s : EReal} {n : ℕ} (v w q : Fin n → EReal) (g : Good a s) (hv : ∀ k, max (v k) (-v k) ≤ a) (ha : a ≤ (B : EReal))
    (hq : ∀ k, q k = min ((448 : ℝ) : EReal) (max ((-448 : ℝ) : EReal) (v k * s⁻¹))) :
    (∑ k, q k * w k) * s = ∑ k, v k * w k := by
  have hq' : ∀ k, q k = v k * s⁻¹ := fun k => (hq k).trans (clip g (hv k) ha)
  obtain ⟨σ, h0, rfl, h1⟩ := g
  rw [mul_sum _ _ h0]
  refine Finset.sum_congr rfl fun k _ => ?_
  have e : ((σ : EReal))⁻¹ * (σ : EReal) = 1 := by rw [← EReal.coe_inv, ← EReal.coe_mul, inv_mul_cancel₀ h0.ne']; rfl
  rw [hq' k, mul_assoc, mul_assoc, mul_comm (w k), ← mul_assoc _ _ (w k), e, one_mul]

/-- A row's greatest magnitude. -/
def amax {n : ℕ} (v : Fin n → EReal) : EReal := (Finset.univ : Finset (Fin n)).fold max ⊥ fun k => max (v k) (-v k)
theorem le_amax {n : ℕ} (v : Fin n → EReal) (k : Fin n) : max (v k) (-v k) ≤ amax v :=
  Finset.le_fold_max _ |>.mpr (.inr ⟨k, Finset.mem_univ _, le_rfl⟩)
theorem amax_le {n : ℕ} (v : Fin n → EReal) (h : ∀ k, max (v k) (-v k) ≤ (B : EReal)) : amax v ≤ (B : EReal) :=
  Finset.fold_max_le _ |>.mpr ⟨bot_le, fun k _ => h k⟩

/-- A value is infinite or within the format's finite range. -/
def Fit (v : EReal) : Prop := max v (-v) ≤ (B : EReal) ∨ max v (-v) = ⊤

theorem amax_fit {n : ℕ} (v : Fin n → EReal) (h : ∀ k, Fit (v k)) : amax v ≤ (B : EReal) ∨ amax v = ⊤ := by
  by_cases hx : ∃ k, max (v k) (-v k) = ⊤
  · obtain ⟨k, e⟩ := hx
    exact .inr (top_le_iff.mp (e ▸ le_amax v k))
  · exact .inl (amax_le v fun k => (h k).resolve_right fun e => hx ⟨k, e⟩)

/-- The scale serves a row of greatest magnitude `a`: it is large enough, or it is one where the row holds an infinity. -/
def Serves (a s : EReal) : Prop := (a = ⊤ ∧ s = 1) ∨ (a ≤ (B : EReal) ∧ Good a s)

theorem Serves.real {a s : EReal} (h : Serves a s) : ∃ σ : ℝ, 0 < σ ∧ s = (σ : EReal) := by
  rcases h with ⟨_, rfl⟩ | ⟨_, σ, h0, e, _⟩
  · exact ⟨1, one_pos, rfl⟩
  · exact ⟨σ, h0, e⟩

/-- A row against a column: the plain product, or the product of the clipped row where it holds an infinity. -/
def prod {n : ℕ} (v w : Fin n → EReal) : EReal :=
  ∑ k, (if amax v = ⊤ then min ((448 : ℝ) : EReal) (max ((-448 : ℝ) : EReal) (v k)) else v k) * w k

/-- Every scale that serves gives the same product. -/
theorem row_prod {n : ℕ} {s : EReal} (v w q : Fin n → EReal) (g : Serves (amax v) s)
    (hq : ∀ k, q k = min ((448 : ℝ) : EReal) (max ((-448 : ℝ) : EReal) (v k * s⁻¹))) :
    (∑ k, q k * w k) * s = prod v w := by
  unfold prod
  rcases g with ⟨h, rfl⟩ | ⟨h, g⟩
  · have e1 : ((1 : EReal))⁻¹ = 1 := by
      rw [← EReal.coe_one, ← EReal.coe_inv, inv_one]
    rw [mul_one]
    refine Finset.sum_congr rfl fun k _ => ?_
    rw [if_pos h, hq k, e1, mul_one]
  · rw [row v w q g (le_amax v) h hq]
    refine Finset.sum_congr rfl fun k _ => ?_
    rw [if_neg (fun e => by rw [e] at h; exact absurd h (not_le.mpr (EReal.coe_lt_top _)))]

/-- The greatest magnitude times the constant stays below `2^120`. -/
theorem y_lt {a : EReal} (ha : a ≤ (B : EReal)) : a * (c : EReal) < (((2 : ℝ) ^ (120 : ℤ) : ℝ) : EReal) := by
  have h : a * (c : EReal) ≤ (B : EReal) * (c : EReal) := mul_le_mul_of_nonneg_right ha (by exact_mod_cast c_pos.le)
  refine h.trans_lt ?_
  rw [← EReal.coe_mul]
  exact_mod_cast B_c

/-- The reference's scale: the least power of two above, or one. -/
def rscale (a : EReal) : EReal :=
  if a = 0 ∨ a = ⊤ then 1 else (Finset.univ : Finset (Fin 384)).fold min ⊤ fun k =>
    if a * (c : EReal) < (((2 : ℝ) ^ ((k.val : ℤ) - 256) : ℝ) : EReal) then (((2 : ℝ) ^ ((k.val : ℤ) - 256) : ℝ) : EReal) else ⊤

theorem rscale_good {a : EReal} (ha : a ≤ (B : EReal)) : Good a (rscale a) := by
  unfold rscale
  split_ifs with h0
  · rcases h0 with h0 | h0
    · exact ⟨1, one_pos, rfl, by rw [h0, zero_mul]; exact_mod_cast one_pos⟩
    · exact absurd ha (not_le.mpr (h0 ▸ EReal.coe_lt_top _))
  · have hy := y_lt ha
    set y := a * (c : EReal)
    set f : Fin 384 → EReal := fun k =>
      if y < (((2 : ℝ) ^ ((k.val : ℤ) - 256) : ℝ) : EReal) then (((2 : ℝ) ^ ((k.val : ℤ) - 256) : ℝ) : EReal) else ⊤ with hf
    have h1 : y < (Finset.univ : Finset (Fin 384)).fold min ⊤ f := by
      refine (Finset.lt_fold_min _).mpr ⟨hy.trans (EReal.coe_lt_top _), fun k _ => ?_⟩
      simp only [hf]
      split_ifs with h
      · exact h
      · exact hy.trans (EReal.coe_lt_top _)
    have h2 : (0 : EReal) < (Finset.univ : Finset (Fin 384)).fold min ⊤ f := by
      refine (Finset.lt_fold_min _).mpr ⟨EReal.zero_lt_top, fun k _ => ?_⟩
      simp only [hf]
      split_ifs with h
      · exact_mod_cast (by positivity : (0 : ℝ) < (2 : ℝ) ^ ((k.val : ℤ) - 256))
      · exact EReal.zero_lt_top
    have h3 : (Finset.univ : Finset (Fin 384)).fold min ⊤ f ≤ (((2 : ℝ) ^ (120 : ℤ) : ℝ) : EReal) := by
      refine (Finset.fold_min_le _).mpr (.inr ⟨(376 : Fin 384), Finset.mem_univ _, ?_⟩)
      have e : (((376 : Fin 384).val : ℤ) - 256) = 120 := by rfl
      simp only [hf, e]
      rw [if_pos hy]
    generalize (Finset.univ : Finset (Fin 384)).fold min ⊤ f = s at h1 h2 h3
    have t1 : s ≠ ⊤ := fun h => by rw [h] at h3; exact absurd h3 (not_le.mpr (EReal.coe_lt_top _))
    have t2 : s ≠ ⊥ := fun h => by rw [h] at h2; exact absurd h2 (by simp)
    lift s to ℝ using ⟨t1, t2⟩
    exact ⟨s, by exact_mod_cast h2, rfl, h1⟩

theorem rscale_serves {a : EReal} (ha : a ≤ (B : EReal) ∨ a = ⊤) : Serves a (rscale a) := by
  rcases ha with ha | ha
  · exact .inr ⟨ha, rscale_good ha⟩
  · exact .inl ⟨ha, by unfold rscale; rw [if_pos (.inr ha)]⟩

/-- The powers the kernel counts: `2^-126` to `2^127`, then infinity. -/
def th (k : ℕ) : EReal := if k ≤ 254 then (((2 : ℝ) ^ ((k : ℤ) - 127) : ℝ) : EReal) else ⊤
/-- How many of them are at most `y`. -/
def N (y : EReal) : ℕ := (Finset.univ.filter fun k : Fin 255 => th (k.val + 1) ≤ y).card
/-- The exponent the kernel takes. -/
def E (n : ℕ) : ℤ := if n = 0 ∨ n = 255 then 0 else (n : ℤ) - 126

theorem th_mono {a b : ℕ} (h : a ≤ b) : th a ≤ th b := by
  unfold th
  split_ifs with h1 h2
  · exact EReal.coe_le_coe_iff.mpr (zpow_le_zpow_right₀ (by norm_num) (by omega))
  · exact le_top
  · omega
  · exact le_rfl

theorem N_le {y : EReal} (hy : y < (((2 : ℝ) ^ (120 : ℤ) : ℝ) : EReal)) : N y ≤ 246 := by
  have : (Finset.univ.filter fun k : Fin 255 => th (k.val + 1) ≤ y) ⊆ Finset.univ.filter fun k : Fin 255 => k.val < 246 := by
    intro k hk
    simp only [Finset.mem_filter, Finset.mem_univ, true_and] at hk ⊢
    by_contra hc
    have h := (th_mono (show 247 ≤ k.val + 1 by omega)).trans hk
    have e : th 247 = (((2 : ℝ) ^ (120 : ℤ) : ℝ) : EReal) := by unfold th; rw [if_pos (by norm_num)]; norm_num
    rw [e] at h
    exact absurd hy (not_lt.mpr h)
  refine (Finset.card_le_card this).trans ?_
  decide +kernel

theorem lt_th {y : EReal} (hy : y < (((2 : ℝ) ^ (120 : ℤ) : ℝ) : EReal)) : y < th (N y + 1) := by
  have hN := N_le hy
  by_contra hc
  rw [not_lt] at hc
  have : (Finset.univ.filter fun k : Fin 255 => k.val < N y + 1) ⊆ Finset.univ.filter fun k : Fin 255 => th (k.val + 1) ≤ y := by
    intro k hk
    simp only [Finset.mem_filter, Finset.mem_univ, true_and] at hk ⊢
    exact (th_mono (by omega)).trans hc
  have h := Finset.card_le_card this
  have e : (Finset.univ.filter fun k : Fin 255 => k.val < N y + 1).card = N y + 1 := by
    rw [Fin.card_filter_val_lt]; omega
  rw [e] at h
  have : N y = (Finset.univ.filter fun k : Fin 255 => th (k.val + 1) ≤ y).card := rfl
  omega

/-- The kernel's scale. -/
def kscale (a : EReal) : ℝ := (2 : ℝ) ^ E (N (a * (c : EReal)))
theorem kscale_good {a : EReal} (ha : a ≤ (B : EReal)) : Good a (kscale a : EReal) := by
  have hy := y_lt ha
  have h1 := lt_th hy
  have h2 := N_le hy
  refine ⟨_, by unfold kscale; positivity, rfl, h1.trans_le ?_⟩
  unfold kscale th E
  rw [if_pos (by omega)]
  split_ifs with h
  · rw [h.resolve_right (by omega)]; exact EReal.coe_le_coe_iff.mpr (zpow_le_zpow_right₀ (by norm_num) (by norm_num))
  · exact EReal.coe_le_coe_iff.mpr (zpow_le_zpow_right₀ (by norm_num) (by push_cast; omega))

theorem N_top : N ((⊤ : EReal) * (c : EReal)) = 255 := by
  rw [EReal.top_mul_coe_of_pos c_pos]
  unfold N
  simp

/-- The count stays away from the words that overflow. -/
theorem N_ok {a : EReal} (ha : a ≤ (B : EReal) ∨ a = ⊤) : N (a * (c : EReal)) ≤ 246 ∨ N (a * (c : EReal)) = 255 := by
  rcases ha with ha | rfl
  · exact .inl (N_le (y_lt ha))
  · exact .inr N_top

theorem kscale_serves {a : EReal} (ha : a ≤ (B : EReal) ∨ a = ⊤) : Serves a (kscale a : EReal) := by
  rcases ha with ha | rfl
  · exact .inr ⟨ha, kscale_good ha⟩
  · refine .inl ⟨rfl, ?_⟩
    unfold kscale E
    rw [N_top, if_pos (.inr rfl), zpow_zero]
    rfl

end Scale
-- ==== Proof.Rows.lean ====
module

public import proofs.«01_k».proof.Proof.Gen.Pre_rows_in_range
public import proofs.«01_k».proof.Proof.Pre
public import proofs.«01_k».proof.Proof.Scale

/-! What the second condition says: the group sizes fill the rows, and every entry is infinite or within range. -/

@[expose] public section

set_option maxRecDepth 16384

noncomputable section

namespace PreFacts

open Idealize.ShloMosaic hiding ix0 ix1 ix2
open Idealize.ShloMosaic.ValueIdx Idealize.ShloMosaic.Routing Idealize.ShloMosaic.WordCmp

/-- The group sizes add up to the number of rows. -/
theorem rows {F : FTy → Type} [FloatOps F] [Cert.Pre_rows_in_range.Facts] (x0 : FVec F (shape2 17408 1408) .bf16) (x : IVec (shape1 16) 32)
    (x2 : FVec F ⟨3, ![16, 1408, 2816]⟩ .fp8e4m3) (x3 : FVec F (shape2 16 2816) .f32)
    (h : Cert.Pre_rows_in_range.fn x0 x x2 x3 = fun _ => 1#1) : Sched.S (Tables.sz x) 16 = 17408 := by
  have e := congrFun h ix0
  obtain ⟨e1, e2⟩ := and_one.1 (and_one.1 e).1
  exact sum_eq x e1 e2

theorem or_one {p q : Prop} [Decidable p] [Decidable q] (h : IntOp.ori (BitVec.ofBool (decide p)) (BitVec.ofBool (decide q)) = 1#1) : p ∨ q := by
  by_contra hc
  rw [not_or] at hc
  rw [decide_eq_false hc.1, decide_eq_false hc.2] at h
  exact absurd h (by decide)

/-- Every entry is infinite or within the finite range. -/
theorem finite [Cert.Pre_rows_in_range.Facts] (x0 : FVec Ideal (shape2 17408 1408) .bf16) (x : IVec (shape1 16) 32)
    (x2 : FVec Ideal ⟨3, ![16, 1408, 2816]⟩ .fp8e4m3) (x3 : FVec Ideal (shape2 16 2816) .f32)
    (h : Cert.Pre_rows_in_range.fn x0 x x2 x3 = fun _ => 1#1) (i : (shape2 17408 1408).Idx) :
    Scale.Fit (x0 i) := by
  have e := (and_one.1 (congrFun h ix0)).2
  have e3 := Host.reduce_andi_all _ _ _ _ ix0 e i
  have e4 : IntOp.ori (BitVec.ofBool (decide (max (x0 i : EReal) (-(x0 i)) ≤ Ideal.ofBits .f32 (0x7F7F0000#32))))
      (BitVec.ofBool (decide (max (x0 i : EReal) (-(x0 i)) = Ideal.ofBits .f32 (0x7F800000#32)))) = 1#1 := e3
  rw [Scale.ofBits_B, Scale.ofBits_top] at e4
  exact or_one e4

end PreFacts
-- ==== Proof.Host.lean ====
module

public import proofs.«01_k».proof.Proof.Gen.Kernel.Launch
public import proofs.«01_k».proof.Proof.Tables
public import Idealize.ShloMosaic.Lib.StableHlo.RunRead
public import Idealize.ShloMosaic.Lib.Pipeline.FrameBody
public import Idealize.ShloMosaic.Lib.Claim

/-! What the host computes before the launch: the arrays as the launch finds them, and the launch's place in the program. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

/-- The group sizes core `c` is given. -/
abbrev gs (c : Dev nD) : IVec (Routing.shape1 16) 32 := m ((c : Thread nD τ).loc main_arg1)

theorem of_arg1 (h h' h'') (x : (⟨S16, .i32⟩ : BufTy).Contents (Elt F)) : (StableHlo.TRef.of main_arg1 h h' h'' : StableHlo.TRef sig ⟨S16, .i32⟩).ofBuf x = x := rfl
theorem to_arg1 (h h' h'') (x : (⟨S16, .i32⟩ : BufTy).Contents (Elt F)) : (StableHlo.TRef.of main_arg1 h h' h'' : StableHlo.TRef sig ⟨S16, .i32⟩).toBuf x = x := rfl
theorem of_v0 (h h' h'') (x : (⟨S16, .i32⟩ : BufTy).Contents (Elt F)) : (StableHlo.TRef.of main_v0 h h' h'' : StableHlo.TRef sig ⟨S16, .i32⟩).ofBuf x = x := rfl
theorem to_v0 (h h' h'') (x : (⟨S16, .i32⟩ : BufTy).Contents (Elt F)) : (StableHlo.TRef.of main_v0 h h' h'' : StableHlo.TRef sig ⟨S16, .i32⟩).toBuf x = x := rfl
theorem of_v1 (h h' h'') (x : (⟨S16, .i32⟩ : BufTy).Contents (Elt F)) : (StableHlo.TRef.of main_v1 h h' h'' : StableHlo.TRef sig ⟨S16, .i32⟩).ofBuf x = x := rfl
theorem to_v1 (h h' h'') (x : (⟨S16, .i32⟩ : BufTy).Contents (Elt F)) : (StableHlo.TRef.of main_v1 h h' h'' : StableHlo.TRef sig ⟨S16, .i32⟩).toBuf x = x := rfl
theorem of_c (h h' h'') (x : (⟨S_, .i32⟩ : BufTy).Contents (Elt F)) : (StableHlo.TRef.of main_c h h' h'' : StableHlo.TRef sig ⟨S_, .i32⟩).ofBuf x = x := rfl
theorem to_c (h h' h'') (x : (⟨S_, .i32⟩ : BufTy).Contents (Elt F)) : (StableHlo.TRef.of main_c h h' h'' : StableHlo.TRef sig ⟨S_, .i32⟩).toBuf x = x := rfl
theorem of_v2 (h h' h'') (x : (⟨S16, .i32⟩ : BufTy).Contents (Elt F)) : (StableHlo.TRef.of main_v2 h h' h'' : StableHlo.TRef sig ⟨S16, .i32⟩).ofBuf x = x := rfl
theorem to_v2 (h h' h'') (x : (⟨S16, .i32⟩ : BufTy).Contents (Elt F)) : (StableHlo.TRef.of main_v2 h h' h'' : StableHlo.TRef sig ⟨S16, .i32⟩).toBuf x = x := rfl
theorem of_v8 (h h' h'') (x : (⟨S16, .i32⟩ : BufTy).Contents (Elt F)) : (StableHlo.TRef.of main_v8 h h' h'' : StableHlo.TRef sig ⟨S16, .i32⟩).ofBuf x = x := rfl
theorem to_v8 (h h' h'') (x : (⟨S16, .i32⟩ : BufTy).Contents (Elt F)) : (StableHlo.TRef.of main_v8 h h' h'' : StableHlo.TRef sig ⟨S16, .i32⟩).toBuf x = x := rfl
theorem of_c_3 (h h' h'') (x : (⟨S_, .i32⟩ : BufTy).Contents (Elt F)) : (StableHlo.TRef.of main_c_3 h h' h'' : StableHlo.TRef sig ⟨S_, .i32⟩).ofBuf x = x := rfl
theorem to_c_3 (h h' h'') (x : (⟨S_, .i32⟩ : BufTy).Contents (Elt F)) : (StableHlo.TRef.of main_c_3 h h' h'' : StableHlo.TRef sig ⟨S_, .i32⟩).toBuf x = x := rfl
theorem of_v9 (h h' h'') (x : (⟨S16, .i32⟩ : BufTy).Contents (Elt F)) : (StableHlo.TRef.of main_v9 h h' h'' : StableHlo.TRef sig ⟨S16, .i32⟩).ofBuf x = x := rfl
theorem to_v9 (h h' h'') (x : (⟨S16, .i32⟩ : BufTy).Contents (Elt F)) : (StableHlo.TRef.of main_v9 h h' h'' : StableHlo.TRef sig ⟨S16, .i32⟩).toBuf x = x := rfl
theorem of_v10 (h h' h'') (x : (⟨S16, .i32⟩ : BufTy).Contents (Elt F)) : (StableHlo.TRef.of main_v10 h h' h'' : StableHlo.TRef sig ⟨S16, .i32⟩).ofBuf x = x := rfl
theorem to_v10 (h h' h'') (x : (⟨S16, .i32⟩ : BufTy).Contents (Elt F)) : (StableHlo.TRef.of main_v10 h h' h'' : StableHlo.TRef sig ⟨S16, .i32⟩).toBuf x = x := rfl
theorem of_c_4 (h h' h'') (x : (⟨S_, .i32⟩ : BufTy).Contents (Elt F)) : (StableHlo.TRef.of main_c_4 h h' h'' : StableHlo.TRef sig ⟨S_, .i32⟩).ofBuf x = x := rfl
theorem to_c_4 (h h' h'') (x : (⟨S_, .i32⟩ : BufTy).Contents (Elt F)) : (StableHlo.TRef.of main_c_4 h h' h'' : StableHlo.TRef sig ⟨S_, .i32⟩).toBuf x = x := rfl
theorem of_v11 (h h' h'') (x : (⟨S16, .i32⟩ : BufTy).Contents (Elt F)) : (StableHlo.TRef.of main_v11 h h' h'' : StableHlo.TRef sig ⟨S16, .i32⟩).ofBuf x = x := rfl
theorem to_v11 (h h' h'') (x : (⟨S16, .i32⟩ : BufTy).Contents (Elt F)) : (StableHlo.TRef.of main_v11 h h' h'' : StableHlo.TRef sig ⟨S16, .i32⟩).toBuf x = x := rfl
theorem of_v12 (h h' h'') (x : (⟨S16, .i32⟩ : BufTy).Contents (Elt F)) : (StableHlo.TRef.of main_v12 h h' h'' : StableHlo.TRef sig ⟨S16, .i32⟩).ofBuf x = x := rfl
theorem to_v12 (h h' h'') (x : (⟨S16, .i32⟩ : BufTy).Contents (Elt F)) : (StableHlo.TRef.of main_v12 h h' h'' : StableHlo.TRef sig ⟨S16, .i32⟩).toBuf x = x := rfl
theorem of_v13 (h h' h'') (x : (⟨S49, .i32⟩ : BufTy).Contents (Elt F)) : (StableHlo.TRef.of main_v13 h h' h'' : StableHlo.TRef sig ⟨S49, .i32⟩).ofBuf x = x := rfl
theorem to_v13 (h h' h'') (x : (⟨S49, .i32⟩ : BufTy).Contents (Elt F)) : (StableHlo.TRef.of main_v13 h h' h'' : StableHlo.TRef sig ⟨S49, .i32⟩).toBuf x = x := rfl
theorem of_v14 (h h' h'') (x : (⟨S49, .i32⟩ : BufTy).Contents (Elt F)) : (StableHlo.TRef.of main_v14 h h' h'' : StableHlo.TRef sig ⟨S49, .i32⟩).ofBuf x = x := rfl
theorem to_v14 (h h' h'') (x : (⟨S49, .i32⟩ : BufTy).Contents (Elt F)) : (StableHlo.TRef.of main_v14 h h' h'' : StableHlo.TRef sig ⟨S49, .i32⟩).toBuf x = x := rfl
theorem of_v4 (h h' h'') (x : (⟨S16, .i1⟩ : BufTy).Contents (Elt F)) : (StableHlo.TRef.of main_v4 h h' h'' : StableHlo.TRef sig ⟨S16, .i1⟩).ofBuf x = x := rfl
theorem after_append (l₁ l₂ : List (HloOp τ sig (Elt F))) (e : Valuation τ sig (Elt F)) :
    StableHlo.after (l₁ ++ l₂) e = StableHlo.after l₂ (StableHlo.after l₁ e) := by
  induction l₁ generalizing e with
  | nil => rfl
  | cons o l ih => exact ih _

/-- The last line of host operations up to the group table. -/
abbrev opsA : List (HloOp τ sig (Elt F)) :=
  [ StableHlo.nullary main_c_5 (constantI S_ 32 15#32),
    StableHlo.unary main_c_5 main_v15 (broadcastInDim S49 ![] bcast_S_S49 : (⟨S_, .i32⟩ : BufTy).Contents (Elt F) → (⟨S49, .i32⟩ : BufTy).Contents (Elt F)),
    StableHlo.binary main_v14 main_v15 main_v16 (minsi : (⟨S49, .i32⟩ : BufTy).Contents (Elt F) → (⟨S49, .i32⟩ : BufTy).Contents (Elt F) → (⟨S49, .i32⟩ : BufTy).Contents (Elt F)),
    StableHlo.unary main_v12 main_v17 ((extractStridedSlice S1 ![15] · slices_S16_S1_15) : (⟨S16, .i32⟩ : BufTy).Contents (Elt F) → (⟨S1, .i32⟩ : BufTy).Contents (Elt F)),
    StableHlo.reshape main_v17 main_v18 (rfl : (.i32 : EltTy) = .i32) shapeCasts_S1_S_,
    StableHlo.nullary main_c_6 (constantI S_ 32 1#32),
    StableHlo.binary main_v18 main_c_6 main_v19 (subi : (⟨S_, .i32⟩ : BufTy).Contents (Elt F) → (⟨S_, .i32⟩ : BufTy).Contents (Elt F) → (⟨S_, .i32⟩ : BufTy).Contents (Elt F)),
    StableHlo.unary main_v19 main_v20 (broadcastInDim S49 ![] bcast_S_S49 : (⟨S_, .i32⟩ : BufTy).Contents (Elt F) → (⟨S49, .i32⟩ : BufTy).Contents (Elt F)),
    StableHlo.binary main_v13 main_v20 main_v21 (minsi : (⟨S49, .i32⟩ : BufTy).Contents (Elt F) → (⟨S49, .i32⟩ : BufTy).Contents (Elt F) → (⟨S49, .i32⟩ : BufTy).Contents (Elt F)),
    StableHlo.nullary main_c_7 (constantI S_ 32 0#32),
    StableHlo.unary main_c_7 main_v22 (broadcastInDim S49 ![] bcast_S_S49 : (⟨S_, .i32⟩ : BufTy).Contents (Elt F) → (⟨S49, .i32⟩ : BufTy).Contents (Elt F)),
    StableHlo.binary main_v21 main_v22 main_v23 (cmpi .slt : (⟨S49, .i32⟩ : BufTy).Contents (Elt F) → (⟨S49, .i32⟩ : BufTy).Contents (Elt F) → (⟨S49, .i1⟩ : BufTy).Contents (Elt F)),
    StableHlo.nullary main_c_8 (constantI S_ 32 49#32),
    StableHlo.unary main_c_8 main_v24 (broadcastInDim S49 ![] bcast_S_S49 : (⟨S_, .i32⟩ : BufTy).Contents (Elt F) → (⟨S49, .i32⟩ : BufTy).Contents (Elt F)),
    StableHlo.binary main_v21 main_v24 main_v25 (addi : (⟨S49, .i32⟩ : BufTy).Contents (Elt F) → (⟨S49, .i32⟩ : BufTy).Contents (Elt F) → (⟨S49, .i32⟩ : BufTy).Contents (Elt F)),
    StableHlo.ternary main_v23 main_v25 main_v21 main_v26 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    StableHlo.unary main_v26 main_v27 (broadcastInDim S49x1 ![0] bcast_S49_S49x1_0 : (⟨S49, .i32⟩ : BufTy).Contents (Elt F) → (⟨S49x1, .i32⟩ : BufTy).Contents (Elt F)),
    StableHlo.binary main_v16 main_v27 main_v28 ((fun x i => Host.gather gather_S49_S49x1_S49_n_0_n_n_0_1_1 x i) : (⟨S49, .i32⟩ : BufTy).Contents (Elt F) → (⟨S49x1, .i32⟩ : BufTy).Contents (Elt F) → (⟨S49, .i32⟩ : BufTy).Contents (Elt F)) ]
/-- The same line up to the tile table. -/
abbrev opsB : List (HloOp τ sig (Elt F)) :=
  [ StableHlo.nullary main_c_9 (constantI S_ 32 0#32),
    StableHlo.unary main_c_9 main_v29 (broadcastInDim S49 ![] bcast_S_S49 : (⟨S_, .i32⟩ : BufTy).Contents (Elt F) → (⟨S49, .i32⟩ : BufTy).Contents (Elt F)),
    StableHlo.binary main_v28 main_v29 main_v30 (cmpi .slt : (⟨S49, .i32⟩ : BufTy).Contents (Elt F) → (⟨S49, .i32⟩ : BufTy).Contents (Elt F) → (⟨S49, .i1⟩ : BufTy).Contents (Elt F)),
    StableHlo.nullary main_c_10 (constantI S_ 32 16#32),
    StableHlo.unary main_c_10 main_v31 (broadcastInDim S49 ![] bcast_S_S49 : (⟨S_, .i32⟩ : BufTy).Contents (Elt F) → (⟨S49, .i32⟩ : BufTy).Contents (Elt F)),
    StableHlo.binary main_v28 main_v31 main_v32 (addi : (⟨S49, .i32⟩ : BufTy).Contents (Elt F) → (⟨S49, .i32⟩ : BufTy).Contents (Elt F) → (⟨S49, .i32⟩ : BufTy).Contents (Elt F)),
    StableHlo.ternary main_v30 main_v32 main_v28 main_v33 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    StableHlo.unary main_v33 main_v34 (broadcastInDim S49x1 ![0] bcast_S49_S49x1_0 : (⟨S49, .i32⟩ : BufTy).Contents (Elt F) → (⟨S49x1, .i32⟩ : BufTy).Contents (Elt F)),
    StableHlo.binary main_v2 main_v34 main_v35 ((fun x i => Host.gather gather_S16_S49x1_S49_n_0_n_n_0_1_1 x i) : (⟨S16, .i32⟩ : BufTy).Contents (Elt F) → (⟨S49x1, .i32⟩ : BufTy).Contents (Elt F) → (⟨S49, .i32⟩ : BufTy).Contents (Elt F)),
    StableHlo.binary main_v35 main_v21 main_v36 (addi : (⟨S49, .i32⟩ : BufTy).Contents (Elt F) → (⟨S49, .i32⟩ : BufTy).Contents (Elt F) → (⟨S49, .i32⟩ : BufTy).Contents (Elt F)),
    StableHlo.binary main_v12 main_v11 main_v37 (subi : (⟨S16, .i32⟩ : BufTy).Contents (Elt F) → (⟨S16, .i32⟩ : BufTy).Contents (Elt F) → (⟨S16, .i32⟩ : BufTy).Contents (Elt F)),
    StableHlo.nullary main_c_11 (constantI S_ 32 0#32),
    StableHlo.unary main_c_11 main_v38 (broadcastInDim S49 ![] bcast_S_S49 : (⟨S_, .i32⟩ : BufTy).Contents (Elt F) → (⟨S49, .i32⟩ : BufTy).Contents (Elt F)),
    StableHlo.binary main_v28 main_v38 main_v39 (cmpi .slt : (⟨S49, .i32⟩ : BufTy).Contents (Elt F) → (⟨S49, .i32⟩ : BufTy).Contents (Elt F) → (⟨S49, .i1⟩ : BufTy).Contents (Elt F)),
    StableHlo.nullary main_c_12 (constantI S_ 32 16#32),
    StableHlo.unary main_c_12 main_v40 (broadcastInDim S49 ![] bcast_S_S49 : (⟨S_, .i32⟩ : BufTy).Contents (Elt F) → (⟨S49, .i32⟩ : BufTy).Contents (Elt F)),
    StableHlo.binary main_v28 main_v40 main_v41 (addi : (⟨S49, .i32⟩ : BufTy).Contents (Elt F) → (⟨S49, .i32⟩ : BufTy).Contents (Elt F) → (⟨S49, .i32⟩ : BufTy).Contents (Elt F)),
    StableHlo.ternary main_v39 main_v41 main_v28 main_v42 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    StableHlo.unary main_v42 main_v43 (broadcastInDim S49x1 ![0] bcast_S49_S49x1_0 : (⟨S49, .i32⟩ : BufTy).Contents (Elt F) → (⟨S49x1, .i32⟩ : BufTy).Contents (Elt F)),
    StableHlo.binary main_v37 main_v43 main_v44 ((fun x i => Host.gather gather_S16_S49x1_S49_n_0_n_n_0_1_1 x i) : (⟨S16, .i32⟩ : BufTy).Contents (Elt F) → (⟨S49x1, .i32⟩ : BufTy).Contents (Elt F) → (⟨S49, .i32⟩ : BufTy).Contents (Elt F)),
    StableHlo.binary main_v36 main_v44 main_v45 (subi : (⟨S49, .i32⟩ : BufTy).Contents (Elt F) → (⟨S49, .i32⟩ : BufTy).Contents (Elt F) → (⟨S49, .i32⟩ : BufTy).Contents (Elt F)) ]
/-- The rest of that line. -/
abbrev opsC : List (HloOp τ sig (Elt F)) :=
  [ StableHlo.nullary main_c_13 (constantI S_ 32 4294967295#32),
    StableHlo.unary main_c_13 main_v46 (broadcastInDim S1 ![] bcast_S_S1 : (⟨S_, .i32⟩ : BufTy).Contents (Elt F) → (⟨S1, .i32⟩ : BufTy).Contents (Elt F)),
    StableHlo.unary main_v45 main_v47 ((extractStridedSlice S48 ![0] · slices_S49_S48_0) : (⟨S49, .i32⟩ : BufTy).Contents (Elt F) → (⟨S48, .i32⟩ : BufTy).Contents (Elt F)),
    StableHlo.binary main_v46 main_v47 main_v48 ((fun a b => concatenate S49 0 [⟨S1, a⟩, ⟨S48, b⟩] concatenates_S1_S48_S49_d0) : (⟨S1, .i32⟩ : BufTy).Contents (Elt F) → (⟨S48, .i32⟩ : BufTy).Contents (Elt F) → (⟨S49, .i32⟩ : BufTy).Contents (Elt F)),
    StableHlo.binary main_v45 main_v48 main_v49 (cmpi .ne : (⟨S49, .i32⟩ : BufTy).Contents (Elt F) → (⟨S49, .i32⟩ : BufTy).Contents (Elt F) → (⟨S49, .i1⟩ : BufTy).Contents (Elt F)),
    StableHlo.unary main_v49 main_v50 ((extui 32 · natLt_1_32) : (⟨S49, .i1⟩ : BufTy).Contents (Elt F) → (⟨S49, .i32⟩ : BufTy).Contents (Elt F)),
    StableHlo.unary main_v19 main_v51 (broadcastInDim S49 ![] bcast_S_S49 : (⟨S_, .i32⟩ : BufTy).Contents (Elt F) → (⟨S49, .i32⟩ : BufTy).Contents (Elt F)),
    StableHlo.binary main_v13 main_v51 main_v52 (cmpi .sle : (⟨S49, .i32⟩ : BufTy).Contents (Elt F) → (⟨S49, .i32⟩ : BufTy).Contents (Elt F) → (⟨S49, .i1⟩ : BufTy).Contents (Elt F)),
    StableHlo.unary main_v52 main_v53 ((extui 32 · natLt_1_32) : (⟨S49, .i1⟩ : BufTy).Contents (Elt F) → (⟨S49, .i32⟩ : BufTy).Contents (Elt F)),
    StableHlo.reshape main_arg3 main_v54 (rfl : (.f32 : EltTy) = .f32) shapeCasts_S16x2816_S16x1x2816 ]

theorem ops_split : (hostOps0_10 : List (HloOp τ sig (Elt F))) = opsA ++ (opsB ++ opsC) := rfl

variable (e : Valuation τ sig (Elt F))

/-- After the first stage: the starts and the first tiles. -/
abbrev E1 (e : Valuation τ sig (Elt F)) : Valuation τ sig (Elt F) :=
  StableHlo.after (List.flatten [hostOps0, hostOps0_1, hostOps0_2]) e
/-- After the second: the visits and their running sums. -/
abbrev E2 (e : Valuation τ sig (Elt F)) : Valuation τ sig (Elt F) :=
  StableHlo.after (List.flatten [hostOps0_3, hostOps0_4, hostOps0_5, hostOps0_6, hostOps0_7]) e
/-- After the third: the step numbers and the counts. -/
abbrev E3 (e : Valuation τ sig (Elt F)) : Valuation τ sig (Elt F) :=
  StableHlo.after (List.flatten [hostOps0_8, hostOps0_9]) e
/-- After the fourth: the group table. -/
abbrev E4 (e : Valuation τ sig (Elt F)) : Valuation τ sig (Elt F) := StableHlo.after opsA e
/-- After the fifth: the tile table. -/
abbrev E5 (e : Valuation τ sig (Elt F)) : Valuation τ sig (Elt F) := StableHlo.after opsB e
/-- After the sixth: all. -/
abbrev E6 (e : Valuation τ sig (Elt F)) : Valuation τ sig (Elt F) := StableHlo.after opsC e

theorem V_eq (c : Dev nD) (b : Ref sig .tc) : V m c b = E6 (E5 (E4 (E3 (E2 (E1 fun b => m (c, b)))))) b := by
  unfold V E1 E2 E3 E4 E5 E6
  rw [ops_split]
  simp only [List.flatten_cons, List.flatten_nil, List.append_nil, after_append]

theorem E1_arg1 : E1 e main_arg1 = e main_arg1 := by
  unfold_abbrev_sides
  after_reads_simp
  try rfl
theorem E1_v0 : E1 e main_v0 = Tables.cums (e main_arg1) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E1_v1 : E1 e main_v1 = Tables.starts (e main_arg1) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E1_v2 : E1 e main_v2 = Tables.firstTile (e main_arg1) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
/-- The visits from the running sums and the first tiles. -/
def visits' (x s f : IVec (Routing.shape1 16) 32) : IVec (Routing.shape1 16) 32 :=
  select (cmpi .sgt x (broadcastInDim (Routing.shape1 16) ![] Tables.b16 (constantI Routing.shape0 32 0#32)))
    (subi (Routing.pyDiv Tables.b16 (subi (addi s (broadcastInDim (Routing.shape1 16) ![] Tables.b16 (constantI Routing.shape0 32 512#32)))
      (broadcastInDim (Routing.shape1 16) ![] Tables.b16 (constantI Routing.shape0 32 1#32))) (constantI Routing.shape0 32 512#32)) f)
    (broadcastInDim (Routing.shape1 16) ![] Tables.b16 (constantI Routing.shape0 32 0#32))
theorem E2_v1 : E2 e main_v1 = e main_v1 := by
  unfold_abbrev_sides
  after_reads_simp
  try rfl
theorem E2_v2 : E2 e main_v2 = e main_v2 := by
  unfold_abbrev_sides
  after_reads_simp
  try rfl
theorem E2_v11 : E2 e main_v11 = visits' (e main_arg1) (e main_v0) (e main_v2) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E2_v12 : E2 e main_v12 = Tables.cums (visits' (e main_arg1) (e main_v0) (e main_v2)) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
/-- The number of running sums at or below each step. -/
def count' (v : IVec (Routing.shape1 16) 32) : IVec (Routing.shape1 49) 32 :=
  Host.reduce IntOp.addi (extui 32 (cmpi .sle
      (broadcastInDim (Routing.shape2 16 49) ![0, 1] Tables.cols (broadcastInDim (Routing.shape2 16 1) ![0] Tables.col16 v))
      (broadcastInDim (Routing.shape2 16 49) ![0, 1] Tables.rows (broadcastInDim (Routing.shape2 1 49) ![1] Tables.row49 (iotaInDim (Routing.shape1 49) 32 0)))) Tables.h132)
    (constantI Routing.shape0 32 0#32) Tables.red Tables.hu
/-- The last live step. -/
def last' (v : IVec (Routing.shape1 16) 32) : IVec Routing.shape0 32 :=
  subi (shapeCast Routing.shape0 (extractStridedSlice (Routing.shape1 1) ![15] v Tables.sl15) Tables.sc1) (constantI Routing.shape0 32 1#32)
/-- Each step, held at the last live one. -/
def held' (i : IVec (Routing.shape1 49) 32) (v : IVec (Routing.shape1 16) 32) : IVec (Routing.shape1 49) 32 :=
  minsi i (broadcastInDim (Routing.shape1 49) ![] Tables.b49 (last' v))
theorem E3_v1 : E3 e main_v1 = e main_v1 := by
  unfold_abbrev_sides
  after_reads_simp
  try rfl
theorem E3_v2 : E3 e main_v2 = e main_v2 := by
  unfold_abbrev_sides
  after_reads_simp
  try rfl
theorem E3_v11 : E3 e main_v11 = e main_v11 := by
  unfold_abbrev_sides
  after_reads_simp
  try rfl
theorem E3_v12 : E3 e main_v12 = e main_v12 := by
  unfold_abbrev_sides
  after_reads_simp
  try rfl
theorem E3_v13 : E3 e main_v13 = iotaInDim (Routing.shape1 49) 32 0 := by
  unfold_abbrev_sides
  after_reads_simp
  try simp only [of_v1]
  try rfl
theorem E3_v14 : E3 e main_v14 = count' (e main_v12) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E4_v1 : E4 e main_v1 = e main_v1 := by
  unfold_abbrev_sides
  after_reads_simp
  try rfl
theorem E4_v2 : E4 e main_v2 = e main_v2 := by
  unfold_abbrev_sides
  after_reads_simp
  try rfl
theorem E4_v11 : E4 e main_v11 = e main_v11 := by
  unfold_abbrev_sides
  after_reads_simp
  try rfl
theorem E4_v12 : E4 e main_v12 = e main_v12 := by
  unfold_abbrev_sides
  after_reads_simp
  try rfl
theorem E4_v13 : E4 e main_v13 = e main_v13 := by
  unfold_abbrev_sides
  after_reads_simp
  try rfl
theorem E4_v19 : E4 e main_v19 = last' (e main_v12) := by
  unfold_abbrev_sides
  after_reads_simp
  try rfl
theorem E4_v21 : E4 e main_v21 = held' (e main_v13) (e main_v12) := by
  unfold_abbrev_sides
  after_reads_simp
  try rfl
theorem E4_v28 : E4 e main_v28 = Host.gather Tables.gd49 (minsi (e main_v14) (broadcastInDim (Routing.shape1 49) ![] Tables.b49 (constantI Routing.shape0 32 15#32))) (Tables.wrap 49#32 (held' (e main_v13) (e main_v12))) := by
  unfold_abbrev_sides
  after_reads_simp
  try rfl
theorem E5_v1 : E5 e main_v1 = e main_v1 := by
  unfold_abbrev_sides
  after_reads_simp
  try rfl
theorem E5_v13 : E5 e main_v13 = e main_v13 := by
  unfold_abbrev_sides
  after_reads_simp
  try rfl
theorem E5_v19 : E5 e main_v19 = e main_v19 := by
  unfold_abbrev_sides
  after_reads_simp
  try rfl
theorem E5_v28 : E5 e main_v28 = e main_v28 := by
  unfold_abbrev_sides
  after_reads_simp
  try rfl
theorem E5_v45 : E5 e main_v45 = subi (addi (Host.gather Tables.gd16 (e main_v2) (Tables.wrap 16#32 (e main_v28))) (e main_v21))
    (Host.gather Tables.gd16 (subi (e main_v12) (e main_v11)) (Tables.wrap 16#32 (e main_v28))) := by
  unfold_abbrev_sides
  after_reads_simp
  try rfl
theorem E6_v1 : E6 e main_v1 = e main_v1 := by
  unfold_abbrev_sides
  after_reads_simp
  try rfl
theorem E6_v28 : E6 e main_v28 = e main_v28 := by
  unfold_abbrev_sides
  after_reads_simp
  try rfl
theorem E6_v45 : E6 e main_v45 = e main_v45 := by
  unfold_abbrev_sides
  after_reads_simp
  try rfl
theorem E6_v50 : E6 e main_v50 = extui 32 (cmpi .ne (e main_v45) (concatenate (Routing.shape1 49) 0
    [⟨Routing.shape1 1, broadcastInDim (Routing.shape1 1) ![] Tables.b1 (constantI Routing.shape0 32 4294967295#32)⟩,
     ⟨Routing.shape1 48, extractStridedSlice (Routing.shape1 48) ![0] (e main_v45) Tables.sl48⟩] Tables.cc)) Tables.h132 := by
  unfold_abbrev_sides
  after_reads_simp
  try rfl
theorem E6_v53 : E6 e main_v53 = extui 32 (cmpi .sle (e main_v13) (broadcastInDim (Routing.shape1 49) ![] Tables.b49 (e main_v19))) Tables.h132 := by
  unfold_abbrev_sides
  after_reads_simp
  try rfl

theorem V_v1 (c : Dev nD) : V m c main_v1 = Tables.starts (gs m c) := by
  rw [V_eq, E6_v1, E5_v1, E4_v1, E3_v1, E2_v1, E1_v1]
theorem V_v28 (c : Dev nD) : V m c main_v28 = Tables.group (gs m c) := by
  rw [V_eq, E6_v28, E5_v28, E4_v28, E3_v13, E3_v14, E3_v12, E2_v12, E1_v0, E1_v2, E1_arg1]
  rfl
theorem V_v45 (c : Dev nD) : V m c main_v45 = Tables.tile (gs m c) := by
  rw [V_eq, E6_v45, E5_v45, E4_v28, E4_v21, E4_v2, E4_v11, E4_v12, E3_v13, E3_v14, E3_v12, E3_v11, E3_v2, E2_v12, E2_v11, E2_v2, E1_v0, E1_v2, E1_arg1]
  rfl
theorem V_v50 (c : Dev nD) : V m c main_v50 = Tables.first (gs m c) := by
  have h := V_v45 m c
  rw [V_eq, E6_v45] at h
  rw [V_eq, E6_v50, h]
  rfl
theorem V_v53 (c : Dev nD) : V m c main_v53 = Tables.live (gs m c) := by
  rw [V_eq, E6_v53, E5_v13, E5_v19, E4_v13, E4_v19, E3_v13, E3_v12, E2_v12, E1_v0, E1_v2, E1_arg1]
  rfl
theorem V_v54 (c : Dev nD) : V m c main_v54 = shapeCast S16x1x2816 (m ((c : Thread nD τ).loc main_arg3)) shapeCasts_S16x2816_S16x1x2816 := by
  unfold_abbrev_sides
  after_reads_simp
  rfl
theorem V_arg0 (c : Dev nD) : V m c main_arg0 = m ((c : Thread nD τ).loc main_arg0) := by
  unfold_abbrev_sides
  after_reads_simp
theorem V_arg1 (c : Dev nD) : V m c main_arg1 = m ((c : Thread nD τ).loc main_arg1) := by
  unfold_abbrev_sides
  after_reads_simp
theorem V_arg2 (c : Dev nD) : V m c main_arg2 = m ((c : Thread nD τ).loc main_arg2) := by
  unfold_abbrev_sides
  after_reads_simp
theorem V_arg3 (c : Dev nD) : V m c main_arg3 = m ((c : Thread nD τ).loc main_arg3) := by
  unfold_abbrev_sides
  after_reads_simp

theorem fresh0 : (hostOps0 : List (HloOp τ sig (Elt F))).Forall fun op => op.fresh = ∅ := by simp only [List.Forall]; repeat' constructor
theorem fresh1 : (hostOps0_1 : List (HloOp τ sig (Elt F))).Forall fun op => op.fresh = ∅ := by simp only [List.Forall]; repeat' constructor
theorem fresh2 : (hostOps0_2 : List (HloOp τ sig (Elt F))).Forall fun op => op.fresh = ∅ := by simp only [List.Forall]; repeat' constructor
theorem fresh3 : (hostOps0_3 : List (HloOp τ sig (Elt F))).Forall fun op => op.fresh = ∅ := by simp only [List.Forall]; repeat' constructor
theorem fresh4 : (hostOps0_4 : List (HloOp τ sig (Elt F))).Forall fun op => op.fresh = ∅ := by simp only [List.Forall]; repeat' constructor
theorem fresh5 : (hostOps0_5 : List (HloOp τ sig (Elt F))).Forall fun op => op.fresh = ∅ := by simp only [List.Forall]; repeat' constructor
theorem fresh6 : (hostOps0_6 : List (HloOp τ sig (Elt F))).Forall fun op => op.fresh = ∅ := by simp only [List.Forall]; repeat' constructor
theorem fresh7 : (hostOps0_7 : List (HloOp τ sig (Elt F))).Forall fun op => op.fresh = ∅ := by simp only [List.Forall]; repeat' constructor
theorem fresh8 : (hostOps0_8 : List (HloOp τ sig (Elt F))).Forall fun op => op.fresh = ∅ := by simp only [List.Forall]; repeat' constructor
theorem fresh9 : (hostOps0_9 : List (HloOp τ sig (Elt F))).Forall fun op => op.fresh = ∅ := by simp only [List.Forall]; repeat' constructor
theorem fresh10 : (hostOps0_10 : List (HloOp τ sig (Elt F))).Forall fun op => op.fresh = ∅ := by simp only [List.Forall]; repeat' constructor

/-- The program up to the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main
    [hostOps0, hostOps0_1, hostOps0_2, hostOps0_3, hostOps0_4, hostOps0_5, hostOps0_6, hostOps0_7, hostOps0_8, hostOps0_9, hostOps0_10]
    (by simp only [List.Forall]
        exact ⟨hostOps0_sub, hostOps0_1_sub, hostOps0_2_sub, hostOps0_3_sub, hostOps0_4_sub, hostOps0_5_sub, hostOps0_6_sub, hostOps0_7_sub,
          hostOps0_8_sub, hostOps0_9_sub, hostOps0_10_sub⟩)
    (by simp only [List.Forall]; exact ⟨fresh0, fresh1, fresh2, fresh3, fresh4, fresh5, fresh6, fresh7, fresh8, fresh9, fresh10⟩) main_chain

end Cert.Kernel.Run
-- ==== Proof.Body.lean ====
module

public import proofs.«01_k».proof.Proof.Host
public import proofs.«01_k».proof.Proof.Gen.Kernel.Skeleton
public import Idealize.ShloMosaic.Lib.Tactic
public import Idealize.ShloMosaic.Lib.WordCmp
public import Idealize.ShloMosaic.Lib.Pipeline.ValueKit
public import Idealize.ShloMosaic.Lib.Tactic.Stretches

/-! One step of the kernel: what the body leaves in its scratch and its output block, from what it finds. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-word read. -/
abbrev w0 : S1.Idx := Shape.Idx.first (s := S1) (numel1_S1.symm ▸ Nat.one_pos)

/-- The word a table of 49 holds for the step. -/
def rd (T : Vec F S49 .i32) (i : grid0.Coords) : BitVec 32 :=
  View.ld (Val := Elt F) (e' := .i32) T (Rect.unit (s := S49) (k0_off1 i) S1.size (k0_off1_inb i)) w0

/-- The word the table of the experts' first rows holds for expert `g`. -/
def rdS (T : Vec F S16 .i32) (g : BitVec 32) (h : k0_chk1 g) : BitVec 32 :=
  View.ld (Val := Elt F) (e' := .i32) T (Rect.unit (s := S16) (k0_off3 g) S1.size (k0_off3_inb g h)) w0

/-- The first branch's condition, on the word it is read from. -/
def isFirst (w : BitVec 32) : Prop := Scalar.cmpi .ne (Scalar.extui (Scalar.cmpi .eq w 1#32) : BitVec 32) 0#32 = 1#1

instance (w : BitVec 32) : Decidable (isFirst w) := by unfold isFirst; infer_instance

/-- The codes after the step. -/
def nextQ (w : BitVec 32) (x : Vec F S512x1408 .bf16) (q : Vec F S512x1408 .fp8e4m3) : Vec F S512x1408 .fp8e4m3 :=
  if isFirst w then k0_pay1 (k0_pay7 x) (k0_pay8 (F := F)) else q

/-- The scales after the step. -/
def nextS (w : BitVec 32) (x : Vec F S512x1408 .bf16) (s : Vec F S512x128 .f32) : Vec F S512x128 .f32 :=
  if isFirst w then k0_pay2 (k0_pay6 x) else s

/-- The column of scales the product reads. -/
def scol (s : Vec F S512x128 .f32) : Vec F S512x1 .f32 :=
  View.ld (Val := Elt F) (e' := .f32) s (Rect.unit (s := S512x128) ![0, 0] S512x1.size inb_S512x128_S512x1_0_0)

/-- The output block after the step. -/
def nextO (live start tile : BitVec 32) (q : Vec F S512x1408 .fp8e4m3) (s : Vec F S512x128 .f32)
    (w : Vec F S1x1408x2816 .fp8e4m3) (ws : Vec F S1x1x2816 .f32) (o : Vec F S512x2816 .bf16) : Vec F S512x2816 .bf16 :=
  if k0_cond2 live = 1#1 then k0_pay3 (F := F) start tile q w (scol s) ws o else o

theorem read_full {s : Shape} {e : EltTy} {κ : Kind} {sp : Space} (v : View sig κ sp s e) (f : v.ty.Contents (Elt F)) (off : Fin s.rank → Nat)
    (inb : ∀ a, off a + s.size a ≤ s.size a) (w : s.Idx → Elt F e)
    (h : ∀ y, ∃ p ∈ [(⟨Rect.unit off s.size inb, w⟩ : View.Piece (Elt F) s e)], y ∈ p.1.set) (h0 : ∀ a, off a = 0) :
    v.read (Elt F) (v.writes (Elt F) f [(⟨Rect.unit off s.size inb, w⟩ : View.Piece (Elt F) s e)]) = w :=
  (View.read_writes_eq_canon v f _ h).trans (View.canon_unit_zero (funext h0) inb w)

omit [FloatOps F] in
theorem whole_o (f : S512x2816.Idx → Elt F .bf16) :
    View.ld (Val := Elt F) (e' := .bf16) f (Rect.unit (s := S512x2816) ![0, 0] S512x2816.size inb_S512x2816_S512x2816_0_0) = f :=
  View.ld_unit_zero (funext fun a => by fin_cases a <;> rfl) _ f
omit [FloatOps F] in
theorem whole_x (f : S512x1408.Idx → Elt F .bf16) :
    View.ld (Val := Elt F) (e' := .bf16) f (Rect.unit (s := S512x1408) ![0, 0] S512x1408.size inb_S512x1408_S512x1408_0_0) = f :=
  View.ld_unit_zero (funext fun a => by fin_cases a <;> rfl) _ f
omit [FloatOps F] in
theorem whole_q (f : S512x1408.Idx → Elt F .fp8e4m3) :
    View.ld (Val := Elt F) (e' := .fp8e4m3) f (Rect.unit (s := S512x1408) ![0, 0] S512x1408.size inb_S512x1408_S512x1408_0_0) = f :=
  View.ld_unit_zero (funext fun a => by fin_cases a <;> rfl) _ f
omit [FloatOps F] in
theorem whole_w (f : S1x1408x2816.Idx → Elt F .fp8e4m3) :
    View.ld (Val := Elt F) (e' := .fp8e4m3) f (Rect.unit (s := S1x1408x2816) ![0, 0, 0] S1x1408x2816.size inb_S1x1408x2816_S1x1408x2816_0_0_0) = f :=
  View.ld_unit_zero (funext fun a => by fin_cases a <;> rfl) _ f
omit [FloatOps F] in
theorem whole_ws (f : S1x1x2816.Idx → Elt F .f32) :
    View.ld (Val := Elt F) (e' := .f32) f (Rect.unit (s := S1x1x2816) ![0, 0, 0] S1x1x2816.size inb_S1x1x2816_S1x1x2816_0_0_0) = f :=
  View.ld_unit_zero (funext fun a => by fin_cases a <;> rfl) _ f

theorem col_after (v : View sig .tc .vmem S512x128 .f32) (w : Vec F S512x128 .f32) :
    v.readCov [(⟨Rect.unit (s := S512x128) ![0, 0] S512x128.size inb_S512x128_S512x128_0_0, w⟩ : View.Piece (Elt F) S512x128 .f32)]
      (Rect.unit (s := S512x128) ![0, 0] S512x1.size inb_S512x128_S512x1_0_0).toLoadRect = scol w := by
  rw [View.readCov_eq_canon', View.canon_unit_zero (funext fun a => by fin_cases a <;> rfl)]
  rfl

set_option maxHeartbeats 1000000 in
/-- The body on whole buffers. -/
theorem body_run (c : Dev nD) (E : Set ℕ) (i : grid0.Coords)
    (arg1 : Memref sig .tc .smem S49 .i32) (harg1 : arg1.IsWhole) (arg2 : Memref sig .tc .smem S49 .i32) (harg2 : arg2.IsWhole)
    (arg3 : Memref sig .tc .smem S16 .i32) (harg3 : arg3.IsWhole) (arg4 : Memref sig .tc .smem S49 .i32) (harg4 : arg4.IsWhole)
    (arg5 : Memref sig .tc .smem S49 .i32) (harg5 : arg5.IsWhole) (arg6 : Memref sig .tc .vmem S512x1408 .bf16) (harg6 : arg6.IsWhole)
    (arg7 : Memref sig .tc .vmem S1x1408x2816 .fp8e4m3) (harg7 : arg7.IsWhole) (arg8 : Memref sig .tc .vmem S1x1x2816 .f32) (harg8 : arg8.IsWhole)
    (arg9 : Memref sig .tc .vmem S512x2816 .bf16) (harg9 : arg9.IsWhole) (arg10 : Memref sig .tc .vmem S512x1408 .fp8e4m3) (harg10 : arg10.IsWhole)
    (arg11 : Memref sig .tc .vmem S512x128 .f32) (harg11 : arg11.IsWhole) (sh : PosShare TreeShare)
    (T1 T2 : Vec F S49 .i32) (T3 : Vec F S16 .i32) (T4 T5 : Vec F S49 .i32)
    (x : Vec F S512x1408 .bf16) (w : Vec F S1x1408x2816 .fp8e4m3) (ws : Vec F S1x1x2816 .f32) (o : Vec F S512x2816 .bf16)
    (q : Vec F S512x1408 .fp8e4m3) (s : Vec F S512x128 .f32) (hg : k0_chk1 (rd T2 i)) (K : PUnit → sProp 𝕄) :
    iprop(owns (c : Thread nD τ) arg1 sh T1 ∗ owns (c : Thread nD τ) arg2 sh T2 ∗ owns (c : Thread nD τ) arg3 sh T3
        ∗ owns (c : Thread nD τ) arg4 sh T4 ∗ owns (c : Thread nD τ) arg5 sh T5
        ∗ owns (c : Thread nD τ) arg6 fullShare x ∗ owns (c : Thread nD τ) arg7 fullShare w ∗ owns (c : Thread nD τ) arg8 fullShare ws
        ∗ owns (c : Thread nD τ) arg9 fullShare o ∗ owns (c : Thread nD τ) arg10 fullShare q ∗ owns (c : Thread nD τ) arg11 fullShare s
        ∗ (iprop(owns (c : Thread nD τ) arg1 sh T1 ∗ owns (c : Thread nD τ) arg2 sh T2 ∗ owns (c : Thread nD τ) arg3 sh T3
        ∗ owns (c : Thread nD τ) arg4 sh T4 ∗ owns (c : Thread nD τ) arg5 sh T5
        ∗ owns (c : Thread nD τ) arg6 fullShare x ∗ owns (c : Thread nD τ) arg7 fullShare w ∗ owns (c : Thread nD τ) arg8 fullShare ws
        ∗ owns (c : Thread nD τ) arg9 fullShare (nextO (rd T5 i) (rdS T3 (rd T2 i) hg) (rd T1 i) (nextQ (rd T4 i) x q) (nextS (rd T4 i) x s) w ws o)
        ∗ owns (c : Thread nD τ) arg10 fullShare (nextQ (rd T4 i) x q)
        ∗ owns (c : Thread nD τ) arg11 fullShare (nextS (rd T4 i) x s)) -∗ K ⟨⟩))
      ⊢ wp frame (wpE (defs₀ (F := F)) Variants.none c none) E
          (cc0_grouped_fp8 i arg1 harg1 arg2 harg2 arg3 harg3 arg4 harg4 arg5 harg5 arg6 harg6 arg7 harg7 arg8 harg8 arg9 harg9 arg10 harg10 arg11 harg11) K := by
  simp only [cc0_grouped_fp8_eq_skeleton]; unfold cc0_grouped_fp8_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf1 hf2 hf3 hf4 hf5 hf6 hf7 hf8 hf9 hf10 hf11
  have hg' : k0_chk1 (View.readAt (Elt F) arg2.view (Rect.unit (s := S49) (k0_off2 i) S1.size (k0_off2_inb i)).toLoadRect f2 w0) := hg
  by_cases hF : Scalar.cmpi .ne (Scalar.extui (Scalar.cmpi .eq (View.readAt (Elt F) arg4.view (Rect.unit (s := S49) (k0_off1 i) S1.size (k0_off1_inb i)).toLoadRect f4 w0 : BitVec 32) 1#32) : BitVec 32) 0#32 = 1#1
  · have hF' : isFirst (rd (View.read (Elt F) arg4.view f4) i) := hF
    by_cases hL : k0_cond2 (View.readAt (Elt F) arg5.view (Rect.unit (s := S49) (k0_off4 i) S1.size (k0_off4_inb i)).toLoadRect f5 w0) = 1#1
    · have hL' : k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists _; isplitr
        swap; · iexact H9
        ipureintro
        rw [nextO, if_pos hL', nextQ, if_pos hF', nextS, if_pos hF']
        sl_open_run
        refine (read_full _ _ _ _ _ (View.cover_of_tiled _ S512x2816.size (by rfl)) (by decide)).trans ?_
        rw [View.readCov_cons_toLoadRect, col_after]
        rw [View.readAt_eq_ld arg7.view, View.readAt_eq_ld arg8.view, View.readAt_eq_ld arg9.view, whole_w, whole_ws, whole_o]
        rw [View.readAt_eq_ld arg6.view, whole_x]
        rfl
      isplitl [H10]
      · iexists _; isplitr
        swap; · iexact H10
        ipureintro
        rw [nextQ, if_pos hF']
        sl_open_run
        refine (read_full _ _ _ _ _ (View.cover_of_tiled _ S512x1408.size (by rfl)) (by decide)).trans ?_
        rw [View.readAt_eq_ld arg6.view, whole_x]
      iexists _; isplitr
      swap; · iexact H11
      ipureintro
      rw [nextS, if_pos hF']
      sl_open_run
      refine (read_full _ _ _ _ _ (View.cover_of_tiled _ S512x128.size (by rfl)) (by decide)).trans ?_
      rw [View.readAt_eq_ld arg6.view, whole_x]
    · have hL' : ¬ k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr
        swap; · iexact H9
        ipureintro
        rw [nextO, if_neg hL']
      isplitl [H10]
      · iexists _; isplitr
        swap; · iexact H10
        ipureintro
        rw [nextQ, if_pos hF']
        sl_open_run
        refine (read_full _ _ _ _ _ (View.cover_of_tiled _ S512x1408.size (by rfl)) (by decide)).trans ?_
        rw [View.readAt_eq_ld arg6.view, whole_x]
      iexists _; isplitr
      swap; · iexact H11
      ipureintro
      rw [nextS, if_pos hF']
      sl_open_run
      refine (read_full _ _ _ _ _ (View.cover_of_tiled _ S512x128.size (by rfl)) (by decide)).trans ?_
      rw [View.readAt_eq_ld arg6.view, whole_x]
  · have hF' : ¬ isFirst (rd (View.read (Elt F) arg4.view f4) i) := hF
    by_cases hL : k0_cond2 (View.readAt (Elt F) arg5.view (Rect.unit (s := S49) (k0_off4 i) S1.size (k0_off4_inb i)).toLoadRect f5 w0) = 1#1
    · have hL' : k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists _; isplitr
        swap; · iexact H9
        ipureintro
        rw [nextO, if_pos hL', nextQ, if_neg hF', nextS, if_neg hF']
        sl_open_run
        refine (read_full _ _ _ _ _ (View.cover_of_tiled _ S512x2816.size (by rfl)) (by decide)).trans ?_
        rw [View.readAt_eq_ld arg10.view, View.readAt_eq_ld arg11.view, whole_q]
        rw [View.readAt_eq_ld arg7.view, View.readAt_eq_ld arg8.view, View.readAt_eq_ld arg9.view, whole_w, whole_ws, whole_o]
        rfl
      isplitl [H10]
      · iexists f10; isplitr
        swap; · iexact H10
        ipureintro
        rw [nextQ, if_neg hF']
      iexists f11; isplitr
      swap; · iexact H11
      ipureintro
      rw [nextS, if_neg hF']
    · have hL' : ¬ k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr
        swap; · iexact H9
        ipureintro
        rw [nextO, if_neg hL']
      isplitl [H10]
      · iexists f10; isplitr
        swap; · iexact H10
        ipureintro
        rw [nextQ, if_neg hF']
      iexists f11; isplitr
      swap; · iexact H11
      ipureintro
      rw [nextS, if_neg hF']

end Cert.Kernel.Run
-- ==== Proof.Words.lean ====
module

public import proofs.«01_k».proof.Proof.Body

/-! The words of the prefetched tables at a step, and the launch's side condition. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

/-- The group sizes, as numbers. -/
abbrev gsz (c : Dev nD) : ℕ → ℕ := Tables.sz (gs m c)

/-- The tables as the launch finds them. -/
def pfT : pre0.Contents (Elt F) := fun k => V m 0 (pre0.ref k)

theorem dev_eq (c : Dev nD) : c = 0 := Subsingleton.elim c 0

theorem pfT_0 : pfT m 0 = Tables.tile (gs m 0) := V_v45 m 0
theorem pfT_1 : pfT m 1 = Tables.group (gs m 0) := V_v28 m 0
theorem pfT_2 : pfT m 2 = Tables.starts (gs m 0) := V_v1 m 0
theorem pfT_3 : pfT m 3 = Tables.first (gs m 0) := V_v50 m 0
theorem pfT_4 : pfT m 4 = Tables.live (gs m 0) := V_v53 m 0

theorem coord_lt (i : grid0.Coords) : (i 0).val < 49 := (i 0).isLt

theorem off1 (i : grid0.Coords) : k0_off1 i 0 = (i 0).val := by
  have h := coord_lt i
  show (Scalar.indexCast (BitVec.ofNat 32 (i 0).val) : Index).toNat = _
  simp only [Scalar.indexCast]
  rw [BitVec.toNat_ofNat]; omega

theorem off3 (g : ℕ) (hg : g < 16) : k0_off3 (BitVec.ofNat 32 g) 0 = g := by
  show (Scalar.indexCast (BitVec.ofNat 32 g) : Index).toNat = _
  simp only [Scalar.indexCast]
  rw [BitVec.toNat_ofNat]; omega

theorem chk1 (g : ℕ) (hg : g < 16) : k0_chk1 (BitVec.ofNat 32 g) := by
  intro a
  fin_cases a
  show k0_off3 (BitVec.ofNat 32 g) 0 + 1 ≤ 16
  rw [off3 g hg]; omega

theorem rd_eq (T : Vec F S49 .i32) (i : grid0.Coords) : rd T i = T (ValueIdx.ix1 (⟨(i 0).val, coord_lt i⟩ : Fin 49)) := by
  refine congrArg T (funext fun a => Fin.ext ?_)
  fin_cases a
  show k0_off1 i 0 + 1 * 0 = _
  rw [off1]; rfl

theorem rdS_eq (T : Vec F S16 .i32) (g : ℕ) (hg : g < 16) (h : k0_chk1 (BitVec.ofNat 32 g)) :
    rdS T (BitVec.ofNat 32 g) h = T (ValueIdx.ix1 (⟨g, hg⟩ : Fin 16)) := by
  refine congrArg T (funext fun a => Fin.ext ?_)
  fin_cases a
  show k0_off3 (BitVec.ofNat 32 g) 0 + 1 * 0 = _
  rw [off3 g hg]; rfl

section Hs
variable (hs : Sched.S (gsz m 0) 16 = 17408)
include hs

theorem at_tile (i : grid0.Coords) : pfT m 0 ((Rect.unit (s := S49) (k0_off1 i) S1.size (k0_off1_inb i)).emb (Shape.Idx.first (Nat.le_of_eq numel1_S1.symm)))
    = BitVec.ofNat 32 (Sched.tl (gsz m 0) (i 0).val) := by
  refine (congrFun (pfT_0 m) _).trans (Eq.trans ?_ (Tables.tile_ap (gs m 0) hs ⟨(i 0).val, coord_lt i⟩))
  refine congrArg (Tables.tile (gs m 0)) (funext fun a => Fin.ext ?_)
  fin_cases a
  show k0_off1 i 0 + 1 * 0 = _
  rw [off1]; rfl

theorem at_group (i : grid0.Coords) : pfT m 1 ((Rect.unit (s := S49) (k0_off1 i) S1.size (k0_off1_inb i)).emb (Shape.Idx.first (Nat.le_of_eq numel1_S1.symm)))
    = BitVec.ofNat 32 (Sched.gt (gsz m 0) (i 0).val) := by
  refine (congrFun (pfT_1 m) _).trans (Eq.trans ?_ (Tables.group_ap (gs m 0) hs ⟨(i 0).val, coord_lt i⟩))
  refine congrArg (Tables.group (gs m 0)) (funext fun a => Fin.ext ?_)
  fin_cases a
  show k0_off1 i 0 + 1 * 0 = _
  rw [off1]; rfl

theorem tr0 (i : grid0.Coords) : cc0_transform_0 k0_off1_inb numel1_S1 (pfT m) i = ![Sched.tl (gsz m 0) (i 0).val, 0] := by
  have ht := Sched.tl_lt (gsz m 0) hs (i 0).val
  refine (congrArg (fun b : BitVec 32 => ![b.toNat, (0#32).toNat]) (at_tile m hs i)).trans ?_
  have h : (BitVec.ofNat 32 (Sched.tl (gsz m 0) (i 0).val)).toNat = Sched.tl (gsz m 0) (i 0).val := by
    rw [BitVec.toNat_ofNat]; omega
  simp only [h, BitVec.ofNat_eq_ofNat, BitVec.toNat_zero]
theorem tr1 (i : grid0.Coords) : cc0_transform_1 k0_off1_inb numel1_S1 (pfT m) i = ![Sched.gt (gsz m 0) (i 0).val, 0, 0] := by
  have ht := Sched.gt_lt (gsz m 0) hs (i 0).val
  refine (congrArg (fun b : BitVec 32 => ![b.toNat, (0#32).toNat, (0#32).toNat]) (at_group m hs i)).trans ?_
  have h : (BitVec.ofNat 32 (Sched.gt (gsz m 0) (i 0).val)).toNat = Sched.gt (gsz m 0) (i 0).val := by
    rw [BitVec.toNat_ofNat]; omega
  simp only [h, BitVec.ofNat_eq_ofNat, BitVec.toNat_zero]
theorem tr2 (i : grid0.Coords) : cc0_transform_2 k0_off1_inb numel1_S1 (pfT m) i = ![Sched.gt (gsz m 0) (i 0).val, 0, 0] := tr1 m hs i
theorem tr3 (i : grid0.Coords) : cc0_transform_3 k0_off1_inb numel1_S1 (pfT m) i = ![Sched.tl (gsz m 0) (i 0).val, 0] := tr0 m hs i

theorem idle_eq (i : grid0.Coords) : idle0 (pfT m) 3 i = !decide ((i 0).val < Sched.T (gsz m 0)) := by
  show (!(k0_cond2 ((pfT m).atD 4 (k0_off4 i)) == 1#1)) = _
  have hw : (pfT m).atD 4 (k0_off4 i) = if (i 0).val < Sched.T (gsz m 0) then 1#32 else 0#32 := by
    unfold Pipeline.Prefetch.Contents.atD
    rw [dif_pos (fun a => by
      fin_cases a
      show k0_off1 i 0 + 1 ≤ 49
      rw [off1]; have := coord_lt i; omega), pfT_4]
    refine Eq.trans ?_ (Tables.live_ap _ hs ⟨(i 0).val, coord_lt i⟩)
    refine congrArg _ (funext fun a => Fin.ext ?_)
    fin_cases a
    exact off1 i
  rw [hw]
  by_cases h : (i 0).val < Sched.T (gsz m 0)
  · rw [if_pos h]; simp only [h, decide_true]; decide
  · rw [if_neg h]; simp only [h, decide_false]; decide

theorem ok : ok0 (pfT m) := by
  refine ⟨fun i => ⟨?_, .inr (Affine.block_words_dvd (by decide) (by decide))⟩, fun i => ⟨?_, .inr (Affine.block_words_dvd (by decide) (by decide))⟩, fun i => ⟨?_, .inl rfl⟩, fun i => ⟨?_, .inr (Affine.block_words_dvd (by decide) (by decide))⟩⟩
  · have ht := Sched.tl_lt (gsz m 0) hs (i 0).val
    rw [tr0 m hs i]; intro a
    fin_cases a
    · show (Sched.tl (gsz m 0) (i 0).val + 1) * 512 ≤ 17408; omega
    · show (0 + 1) * 1408 ≤ 1408; omega
  · have ht := Sched.gt_lt (gsz m 0) hs (i 0).val
    rw [tr1 m hs i]; intro a
    fin_cases a
    · show (Sched.gt (gsz m 0) (i 0).val + 1) * 1 ≤ 16; omega
    · show (0 + 1) * 1408 ≤ 1408; omega
    · show (0 + 1) * 2816 ≤ 2816; omega
  · have ht := Sched.gt_lt (gsz m 0) hs (i 0).val
    rw [tr2 m hs i]; intro a
    fin_cases a
    · show (Sched.gt (gsz m 0) (i 0).val + 1) * 1 ≤ 16; omega
    · show (0 + 1) * 1 ≤ 1; omega
    · show (0 + 1) * 2816 ≤ 2816; omega
  · have ht := Sched.tl_lt (gsz m 0) hs (i 0).val
    rw [tr3 m hs i]; intro a
    fin_cases a
    · show (Sched.tl (gsz m 0) (i 0).val + 1) * 512 ≤ 17408; omega
    · show (0 + 1) * 2816 ≤ 2816; omega

end Hs
end Cert.Kernel.Run
-- ==== Proof.Val.lean ====
module

public import proofs.«01_k».proof.Proof.Words

/-! What the staged output block holds after each step, in closed form. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI

variable {F : FTy → Type} [FloatOps F]

/-- The product of a block of codes with an expert's weights, scaled: what the step writes where its mask allows. -/
def prod (q : Vec F S512x1408 .fp8e4m3) (w : Vec F S1x1408x2816 .fp8e4m3) (col : Vec F S512x1 .f32) (ws : Vec F S1x1x2816 .f32) :
    FVec F S512x2816 .bf16 :=
  truncf .bf16 (mulf (mulf (matmul dot_S512x1408_S1408x2816_S512x2816_1_0_0_1_n_n none q (shapeCast S1408x2816 w shapeCasts_S1x1408x2816_S1408x2816)
      (constant S512x2816 .f32 0x00000000#32)) (broadcastTo S512x2816 col broadcasts_S512x1_S512x2816))
    (broadcastTo S512x2816 (shapeCast S1x2816 ws shapeCasts_S1x1x2816_S1x2816) broadcasts_S1x2816_S512x2816)) bitsLt_bf16_f32

/-- The mask word of a row. -/
theorem mask_word (a b r : ℕ) (ha : a ≤ 17408) (hb : b < 34) (hr : r < 512) :
    IntOp.cmpi .sge (BitVec.ofNat 32 r) (BitVec.ofNat 32 a - BitVec.ofNat 32 b * 512#32) = BitVec.ofBool (decide (a ≤ 512 * b + r)) := by
  show BitVec.ofBool (BitVec.sle _ _) = _
  congr 1
  have e : ∀ n : ℕ, n < 2 ^ 31 → (BitVec.ofNat 32 n).toInt = (n : ℤ) := fun n hn => by
    rw [BitVec.toInt_eq_toNat_of_lt (by rw [BitVec.toNat_ofNat]; omega), BitVec.toNat_ofNat]; omega
  rw [Bool.eq_iff_iff, BitVec.sle_iff_toInt_le, decide_eq_true_iff, BitVec.toInt_sub, BitVec.toInt_mul, e a (by omega), e b (by omega), e r (by omega), e 512 (by omega)]
  simp only [Int.bmod_def]
  omega

theorem pay3_ap (a b : ℕ) (ha : a ≤ 17408) (hb : b < 34) (q : Vec F S512x1408 .fp8e4m3) (w : Vec F S1x1408x2816 .fp8e4m3)
    (col : Vec F S512x1 .f32) (ws : Vec F S1x1x2816 .f32) (o : Vec F S512x2816 .bf16) (j : S512x2816.Idx) :
    k0_pay3 (F := F) (BitVec.ofNat 32 a) (BitVec.ofNat 32 b) q w col ws o j = if a ≤ 512 * b + (j 0).val then prod q w col ws j else o j := by
  have hj : (j 0).val < 512 := (j 0).isLt
  have e : ∀ c : BitVec 1, c = BitVec.ofBool (decide (a ≤ 512 * b + (j 0).val)) → ∀ p p' : F .bf16, p' = o j →
      Scalar.select c p p' = if a ≤ 512 * b + (j 0).val then p else o j := by
    intro c hc p p' hp
    rw [hc, hp]
    by_cases h : a ≤ 512 * b + (j 0).val <;> simp [h, Scalar.select]
  unfold k0_pay3
  dsimp only
  refine e _ ?_ _ _ ?_
  · refine Eq.trans ?_ (mask_word a b (j 0).val ha hb hj)
    rw [shapeCast_self]
    show IntOp.cmpi .sge _ _ = _
    congr 1
    exact (iota_single_apply _ _ _ _ _ _).trans rfl
  · rw [shapeCast_self]

variable (m : (ℓ : Loc nD τ sig) → Buf (Elt F) ℓ)

/-- A tile of the activations. -/
def xt (k : Fin 34) : Vec F S512x1408 .bf16 := fun j =>
  V m 0 main_arg0 (ValueIdx.ix2 (⟨512 * k.val + (j 0).val, by have := k.isLt; have h : (j 0).val < 512 := (j 0).isLt; omega⟩ : Fin 17408) (⟨(j 1).val, (j 1).isLt⟩ : Fin 1408))
/-- An expert's weights. -/
def wt (g : Fin 16) : Vec F S1x1408x2816 .fp8e4m3 := fun j =>
  V m 0 main_arg2 (ValueIdx.ix3 g (⟨(j 1).val, (j 1).isLt⟩ : Fin 1408) (⟨(j 2).val, (j 2).isLt⟩ : Fin 2816))
/-- An expert's column scales. -/
def wst (g : Fin 16) : Vec F S1x1x2816 .f32 := fun j =>
  V m 0 main_v54 (ValueIdx.ix3 g (0 : Fin 1) (⟨(j 2).val, (j 2).isLt⟩ : Fin 2816))

/-- A tile's codes and scales. -/
def Qk (k : Fin 34) : Vec F S512x1408 .fp8e4m3 := k0_pay1 (k0_pay7 (xt m k)) (k0_pay8 (F := F))
def Sk (k : Fin 34) : Vec F S512x128 .f32 := k0_pay2 (k0_pay6 (xt m k))

/-- A tile's rows against one expert. -/
def Vblk (k : Fin 34) (g : Fin 16) : Vec F S512x2816 .bf16 := prod (Qk m k) (wt m g) (scol (Sk m k)) (wst m g)

/-- The step's tile and expert. -/
def tF (n : ℕ) : Fin 34 := Fin.ofNat 34 (Sched.tl (gsz m 0) n)
def gF (n : ℕ) : Fin 16 := Fin.ofNat 16 (Sched.gt (gsz m 0) n)
/-- The expert whose product a row of the staged block holds after the step. -/
def eF (n r : ℕ) : Fin 16 := Fin.ofNat 16 (min (Sched.ex (gsz m 0) (512 * Sched.tl (gsz m 0) n + r)) (Sched.gt (gsz m 0) n))

/-- The staged block after the step. -/
def O (n : ℕ) : Vec F S512x2816 .bf16 := fun j => Vblk m (tF m n) (eF m n (j 0).val) j

theorem gt_mono {a b : ℕ} (h : a ≤ b) : Sched.gt (gsz m 0) a ≤ Sched.gt (gsz m 0) b := by
  unfold Sched.gt Sched.G Sched.cnt
  refine Finset.card_le_card fun g => ?_
  simp only [Finset.mem_filter]
  exact fun ⟨h1, h2⟩ => ⟨h1, by omega⟩

section Hs
variable (hs : Sched.S (gsz m 0) 16 = 17408)
include hs

theorem tF_val (n : ℕ) : (tF m n).val = Sched.tl (gsz m 0) n := Nat.mod_eq_of_lt (Sched.tl_lt _ hs n)
theorem gF_val (n : ℕ) : (gF m n).val = Sched.gt (gsz m 0) n := Nat.mod_eq_of_lt (Sched.gt_lt _ hs n)

theorem O_idle (n : ℕ) (h : Sched.T (gsz m 0) ≤ n) : O m n = O m (n - 1) := by
  obtain ⟨_, h1, h2⟩ := Sched.T_le_of_idle _ hs n h
  unfold O tF eF
  rw [h1, h2]

theorem O_live (n : ℕ) (h : n < Sched.T (gsz m 0)) (o : Vec F S512x2816 .bf16)
    (ho : (n = 0 ∨ Sched.tl (gsz m 0) n ≠ Sched.tl (gsz m 0) (n - 1)) ∨ o = O m (n - 1)) :
    k0_pay3 (F := F) (BitVec.ofNat 32 (Sched.S (gsz m 0) (Sched.gt (gsz m 0) n))) (BitVec.ofNat 32 (Sched.tl (gsz m 0) n))
      (Qk m (tF m n)) (wt m (gF m n)) (scol (Sk m (tF m n))) (wst m (gF m n)) o = O m n := by
  have hg := Sched.gt_lt _ hs n
  funext j
  rw [pay3_ap _ _ (Sched.S_le _ hs _ hg.le) (Sched.tl_lt _ hs n)]
  split_ifs with hm
  · have hle := Sched.le_ex (gsz m 0) _ _ hg.le hm
    unfold O Vblk
    have : eF m n (j 0).val = gF m n := by unfold eF gF; rw [min_eq_right hle]
    rw [this]
  · have hop : ¬ (n = 0 ∨ Sched.tl (gsz m 0) n ≠ Sched.tl (gsz m 0) (n - 1)) := fun hc => by
      have := (Sched.opens _ hs n hc).2; omega
    have hoo := ho.resolve_left hop
    obtain ⟨h0, h1⟩ := not_or.mp hop
    have h1' := not_not.mp h1
    have hst := Sched.stays _ hs n (by omega) h h1'
    have hg1 := Sched.gt_lt _ hs (n - 1)
    have hex := Sched.ex_le (gsz m 0) (512 * Sched.tl (gsz m 0) n + (j 0).val) (Sched.gt (gsz m 0) (n - 1)) hg1 (by omega)
    have hgm : Sched.gt (gsz m 0) (n - 1) ≤ Sched.gt (gsz m 0) n := gt_mono m (Nat.sub_le n 1)
    rw [hoo]
    unfold O
    have e1 : tF m (n - 1) = tF m n := by unfold tF; rw [h1']
    have e2 : eF m (n - 1) (j 0).val = eF m n (j 0).val := by
      unfold eF; rw [← h1', min_eq_left hex, min_eq_left (hex.trans hgm)]
    rw [e1, e2]

end Hs
end Cert.Kernel.Run
-- ==== Proof.Data.lean ====
module

public import proofs.«01_k».proof.Proof.Val
public import Idealize.ShloMosaic.Lib.Pipeline.TableIdle
public import Idealize.ShloMosaic.Lib.Pipeline.Kit

/-! The proof data of the launch: what every buffer holds at every step. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (hs : Sched.S (gsz m 0) 16 = 17408)

/-- The tables' contents, admissible. -/
def adm : (p : Fin 1) → (pcfgs (F := F) p).Adm := fun _ => ⟨pfT m, ok m hs⟩

/-- The pipeline at those tables. -/
abbrev cfgA : Pipeline.Cfg sig Λ₀ := Pipeline.pin pcfgs (adm m hs) 0

theorem lt49 (t : Fin (cfgA m hs).N) : t.val < 49 := Nat.lt_of_lt_of_eq t.isLt N_0

theorem coords_val (t : Fin (cfgA m hs).N) : (((cfgA m hs).grid.coords t) 0).val = t.val := by
  rw [Pipeline.Grid.coords_val (G := (cfgA m hs).grid) t 0 (S := 1) (B := 49) (show Pipeline.Grid.stride grid0 0 = 1 by decide) rfl]
  have := lt49 m hs t
  omega

/-- The invariant before step `n`: the scratch as the step before left it. -/
def Phi (c : Dev nD) (n : ℕ) : sProp 𝕄 :=
  iprop((match n with
    | 0 => iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
    | n + 1 => iprop(owns (c : Thread nD τ) (Memref.whole cc0_scratch0) fullShare (Qk m (tF m n)) ∗ owns (c : Thread nD τ) (Memref.whole cc0_scratch1) fullShare (Sk m (tF m n))))
    ∗ (∃ r, prngReg c r) ∗ Pipeline.ΦT pre0 (pfT m) c)

/-- What each window's staging buffer holds after step `n`. -/
def aft (n : ℕ) : (w : Fin 4) → (spec0 w).block.Idx → Elt F (spec0 w).elt
  | 0 => xt m (tF m n)
  | 1 => wt m (gF m n)
  | 2 => wst m (gF m n)
  | 3 => O m n
  | ⟨_ + 4, h⟩ => absurd h (Nat.not_lt.2 (Nat.le_add_left _ _))

/-- The proof data. -/
def dats (p : Fin 1) (c : Dev nD) : Dat τ (Elt F) Unit ℕ (UR sig nD τ) ℕ (Pipeline.pin pcfgs (adm m hs) p) c where
  A w := V m c (Pipeline.arrRef spec0 w)
  after w t := aft m t.val w
  Φ t := Phi m c t.val
  q _ := fullShare
  owed _ := 0

theorem A_eq (c : Dev nD) (w : Fin (cfgA m hs).W) : (dats m hs 0 c).A w = V m c (Pipeline.arrRef spec0 w) := by dsimp only [dats]
theorem after_eq (c : Dev nD) (w : Fin (cfgA m hs).W) (t : Fin (cfgA m hs).N) : (dats m hs 0 c).after w t = aft m t.val w := by dsimp only [dats]
theorem after_0 (c : Dev nD) (t : Fin (cfgA m hs).N) : (dats m hs 0 c).after 0 t = xt m (tF m t.val) := after_eq m hs c 0 t
theorem after_1 (c : Dev nD) (t : Fin (cfgA m hs).N) : (dats m hs 0 c).after 1 t = wt m (gF m t.val) := after_eq m hs c 1 t
theorem after_2 (c : Dev nD) (t : Fin (cfgA m hs).N) : (dats m hs 0 c).after 2 t = wst m (gF m t.val) := after_eq m hs c 2 t
theorem after_3 (c : Dev nD) (t : Fin (cfgA m hs).N) : (dats m hs 0 c).after 3 t = O m t.val := after_eq m hs c 3 t
theorem Phi_at (c : Dev nD) (t : Fin ((cfgA m hs).N + 1)) : (dats m hs 0 c).Φ t = Phi m c t.val := by dsimp only [dats]

theorem index_eq (w : Fin 4) (t : Fin (cfgA m hs).N) : ((cfgA m hs).win w).index t = ix0 (pfT m) w ((cfgA m hs).grid.coords t) := rfl
theorem index_0 (t : Fin (cfgA m hs).N) : ((cfgA m hs).win 0).index t = ![Sched.tl (gsz m 0) t.val, 0] := by
  refine (index_eq m hs 0 t).trans ((tr0 m hs ((cfgA m hs).grid.coords t)).trans ?_)
  rw [coords_val m hs t]
theorem index_1 (t : Fin (cfgA m hs).N) : ((cfgA m hs).win 1).index t = ![Sched.gt (gsz m 0) t.val, 0, 0] := by
  refine (index_eq m hs 1 t).trans ((tr1 m hs ((cfgA m hs).grid.coords t)).trans ?_)
  rw [coords_val m hs t]
theorem index_2 (t : Fin (cfgA m hs).N) : ((cfgA m hs).win 2).index t = ![Sched.gt (gsz m 0) t.val, 0, 0] := by
  refine (index_eq m hs 2 t).trans ((tr2 m hs ((cfgA m hs).grid.coords t)).trans ?_)
  rw [coords_val m hs t]
theorem index_3 (t : Fin (cfgA m hs).N) : ((cfgA m hs).win 3).index t = ![Sched.tl (gsz m 0) t.val, 0] := by
  refine (index_eq m hs 3 t).trans ((tr3 m hs ((cfgA m hs).grid.coords t)).trans ?_)
  rw [coords_val m hs t]

theorem read_slice (b : Ref sig .tc) (off size : Fin b.ty.shape.rank → ℕ) (inb) (X : b.ty.Contents (Elt F)) (j : (Rect.unit off size inb).shape.Idx)
    (k : b.ty.shape.Idx) (hk : ∀ a, off a + (j a).val = (k a).val) :
    ((View.whole b).slice (Rect.unit off size inb)).read (Elt F) X j = X k := by
  refine Eq.trans (b := X (((View.whole b).slice (Rect.unit off size inb)).emb j)) rfl ?_
  refine congrArg X (funext fun a => Fin.ext ?_)
  exact (ValueKit.view_emb_slice_whole_unit_val b off size inb j a).trans (hk a)

theorem forall3 {P : Fin 3 → Prop} (h : P 0 ∧ P 1 ∧ P 2) : ∀ a, P a :=
  Fin.forall_fin_succ.mpr ⟨h.1, Fin.forall_fin_two.mpr ⟨h.2.1, h.2.2⟩⟩

theorem blk_0 (c : Dev nD) (t : Fin (cfgA m hs).N) : (dats m hs 0 c).blockOf 0 t = aft m t.val 0 := by
  obtain rfl := dev_eq c
  rw [Pipeline.Dat.blockOf, A_eq]
  refine funext fun j : S512x1408.Idx => ?_
  refine read_slice main_arg0 (fun a => ((cfgA m hs).win 0).index t a * S512x1408.size a) S512x1408.size _ (V m 0 main_arg0) j _ (fun a => ?_)
  simp only [index_0 m hs t]
  have e := tF_val m hs t.val
  revert a
  refine Fin.forall_fin_two.mpr ⟨?_, ?_⟩
  · show Sched.tl (gsz m 0) t.val * 512 + (j 0).val = 512 * (tF m t.val).val + (j 0).val; omega
  · show 0 * 1408 + (j 1).val = (j 1).val; omega

theorem blk_1 (c : Dev nD) (t : Fin (cfgA m hs).N) : (dats m hs 0 c).blockOf 1 t = aft m t.val 1 := by
  obtain rfl := dev_eq c
  rw [Pipeline.Dat.blockOf, A_eq]
  refine funext fun j : S1x1408x2816.Idx => ?_
  refine read_slice main_arg2 (fun a => ((cfgA m hs).win 1).index t a * S1x1408x2816.size a) S1x1408x2816.size _ (V m 0 main_arg2) j _ (fun a => ?_)
  simp only [index_1 m hs t]
  have e := gF_val m hs t.val
  revert a
  refine forall3 ⟨?_, ?_, ?_⟩
  · have hj : (j 0).val < 1 := (j 0).isLt
    show Sched.gt (gsz m 0) t.val * 1 + (j 0).val = (gF m t.val).val; omega
  · show 0 * 1408 + (j 1).val = (j 1).val; omega
  · show 0 * 2816 + (j 2).val = (j 2).val; omega

theorem blk_2 (c : Dev nD) (t : Fin (cfgA m hs).N) : (dats m hs 0 c).blockOf 2 t = aft m t.val 2 := by
  obtain rfl := dev_eq c
  rw [Pipeline.Dat.blockOf, A_eq]
  refine funext fun j : S1x1x2816.Idx => ?_
  refine read_slice main_v54 (fun a => ((cfgA m hs).win 2).index t a * S1x1x2816.size a) S1x1x2816.size _ (V m 0 main_v54) j _ (fun a => ?_)
  simp only [index_2 m hs t]
  have e := gF_val m hs t.val
  revert a
  refine forall3 ⟨?_, ?_, ?_⟩
  · have hj : (j 0).val < 1 := (j 0).isLt
    show Sched.gt (gsz m 0) t.val * 1 + (j 0).val = (gF m t.val).val; omega
  · have hj : (j 1).val < 1 := (j 1).isLt
    show 0 * 1 + (j 1).val = 0; omega
  · show 0 * 2816 + (j 2).val = (j 2).val; omega

theorem before_0 (c : Dev nD) (t : Fin (cfgA m hs).N) (d) : (dats m hs 0 c).before 0 t d = aft m t.val 0 :=
  ((dats m hs 0 c).before_in_eq_fetched 0 rfl (fun _ => rfl) (fun _ _ _ => rfl) (fun t => by rw [blk_0, after_eq]; rfl) t d).trans
    (by unfold Dat.fetched; rw [blk_0]; rfl)
theorem before_1 (c : Dev nD) (t : Fin (cfgA m hs).N) (d) : (dats m hs 0 c).before 1 t d = aft m t.val 1 :=
  ((dats m hs 0 c).before_in_eq_fetched 1 rfl (fun _ => rfl) (fun _ _ _ => rfl) (fun t => by rw [blk_1, after_eq]; rfl) t d).trans
    (by unfold Dat.fetched; rw [blk_1]; rfl)
theorem before_2 (c : Dev nD) (t : Fin (cfgA m hs).N) (d) : (dats m hs 0 c).before 2 t d = aft m t.val 2 :=
  ((dats m hs 0 c).before_in_eq_fetched 2 rfl (fun _ => rfl) (fun _ _ _ => rfl) (fun t => by rw [blk_2, after_eq]; rfl) t d).trans
    (by unfold Dat.fetched; rw [blk_2]; rfl)

theorem idle_3 (t : Fin (cfgA m hs).N) : (cfgA m hs).idle 3 ((cfgA m hs).grid.coords t) = !decide (t.val < Sched.T (gsz m 0)) :=
  (idle_eq m hs ((cfgA m hs).grid.coords t)).trans (by rw [coords_val m hs t])

/-- The steps that write the staged block back. -/
theorem flush_3 (t : Fin (cfgA m hs).N) :
    ((cfgA m hs).win 3).flush t = decide (t.val + 1 = 49 ∨ Sched.tl (gsz m 0) (t.val + 1) ≠ Sched.tl (gsz m 0) t.val) := by
  have ht := lt49 m hs t
  have hN : Pipeline.Grid.N (cfgA m hs).grid = 49 := N_0
  have ho : ((cfgA m hs).win 3).isOut = true := rfl
  unfold Pipeline.Window.flush
  rw [ho, Bool.true_and, Bool.eq_iff_iff, Bool.or_eq_true, decide_eq_true_iff, decide_eq_true_iff, decide_eq_true_iff]
  have key : ∀ h : t.val + 1 < (cfgA m hs).N, ((cfgA m hs).win 3).index ⟨t.val + 1, h⟩ ≠ ((cfgA m hs).win 3).index t ↔ Sched.tl (gsz m 0) (t.val + 1) ≠ Sched.tl (gsz m 0) t.val := by
    intro h
    rw [index_3 m hs, index_3 m hs]
    refine not_congr ⟨fun e => congrFun e 0, fun e => ?_⟩
    show ![Sched.tl (gsz m 0) (t.val + 1), 0] = _
    rw [e]
  constructor
  · rintro (h | ⟨h, h'⟩)
    · exact .inl (by omega)
    · exact .inr ((key h).mp h')
  · rintro (h | h)
    · exact .inl (by omega)
    · by_cases h' : t.val + 1 = 49
      · exact .inl (by omega)
      · exact .inr ⟨Nat.lt_of_lt_of_eq (by omega : t.val + 1 < 49) N_0.symm, (key _).mpr h⟩

theorem fresh_3 : ∀ n, n ≤ (cfgA m hs).N → n < 49 → (cfgA m hs).fresh 3 n = decide (n = 0 ∨ Sched.tl (gsz m 0) n ≠ Sched.tl (gsz m 0) (n - 1))
  | 0, _, _ => by rw [Pipeline.Cfg.fresh_zero]; simp
  | n + 1, h, h49 => by
    rw [Pipeline.Cfg.fresh_succ _ 3 n h, flush_3, idle_3, fresh_3 n (by omega) (by omega)]
    have h1 : n + 1 ≠ 49 := by omega
    rw [Bool.eq_iff_iff]
    simp only [Bool.or_eq_true, decide_eq_true_iff, Bool.and_eq_true, Bool.not_eq_true', decide_eq_false_iff_not, Nat.add_sub_cancel, h1, false_or, Nat.succ_ne_zero, not_lt]
    constructor
    · rintro (h | ⟨h, h'⟩)
      · exact h
      · have := Sched.T_le_of_idle _ hs n h
        omega
    · exact fun h => .inl h

theorem before_3 (c : Dev nD) (t : Fin (cfgA m hs).N) (d) : (dats m hs 0 c).before 3 t d
    = if (cfgA m hs).fresh 3 t.val then d else aft m (t.val - 1) 3 :=
  ((dats m hs 0 c).before_out_traj 3 rfl (fun _ _ => rfl) (fun t h0 hi _ => by
    rw [after_eq, after_eq]
    rw [idle_3] at hi
    exact O_idle m hs t.val (by simpa using hi)) t.val t rfl d).trans (by rw [after_eq])

end Cert.Kernel.Run
-- ==== Proof.Run.lean ====
module

public import proofs.«01_k».proof.Proof.Data

/-! The body's obligation at every step, the launch and the frame. -/

@[expose] public section

set_option maxRecDepth 16384
set_option backward.isDefEq.respectTransparency.types false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tables as the body holds them. -/
theorem phiT_eq (c : Dev nD) : (Pipeline.ΦT pre0 (pfT m) c : sProp 𝕄)
    = iprop(owns (c : Thread nD τ) (Memref.whole main_v45) fullShare.right (pfT m 0) ∗ owns (c : Thread nD τ) (Memref.whole main_v28) fullShare.right (pfT m 1)
      ∗ owns (c : Thread nD τ) (Memref.whole main_v1) fullShare.right (pfT m 2) ∗ owns (c : Thread nD τ) (Memref.whole main_v50) fullShare.right (pfT m 3)
      ∗ owns (c : Thread nD τ) (Memref.whole main_v53) fullShare.right (pfT m 4)) := by
  have h := bigSep_univ_eq_bigSepL [(0 : Fin 5), (1 : Fin 5), (2 : Fin 5), (3 : Fin 5), (4 : Fin 5)] (by decide) (by decide)
    (fun k : Fin 5 => (iprop(((c.tc : Thread nD τ).loc (pre0.ref k)) ↦{fullShare.right} pfT m k) : sProp 𝕄))
  rw [owns_whole, owns_whole, owns_whole, owns_whole, owns_whole]
  exact h

/-- What a step finds in the scratch. -/
theorem phi_open (c : Dev nD) (n : ℕ) : Phi m c n ⊢ iprop(∃ q s, ⌜n = 0 ∨ (q = Qk m (tF m (n - 1)) ∧ s = Sk m (tF m (n - 1)))⌝
    ∗ owns (c : Thread nD τ) (Memref.whole cc0_scratch0) fullShare q ∗ owns (c : Thread nD τ) (Memref.whole cc0_scratch1) fullShare s
    ∗ (∃ r, prngReg c r) ∗ Pipeline.ΦT pre0 (pfT m) c) := by
  cases n with
  | zero =>
    unfold Phi
    iintro ⟨⟨⟨%q, Hq⟩, ⟨%s, Hs⟩⟩, Hr, Ht⟩
    iexists q, s
    isplitr; · ipureintro; exact .inl rfl
    isplitl [Hq]; · rw [owns_whole]; iexact Hq
    isplitl [Hs]; · rw [owns_whole]; iexact Hs
    isplitl [Hr] <;> iassumption
  | succ n =>
    unfold Phi
    iintro ⟨⟨Hq, Hs⟩, Hr, Ht⟩
    iexists _, _
    isplitr; · ipureintro; exact .inr ⟨rfl, rfl⟩
    isplitl [Hq]; · iexact Hq
    isplitl [Hs]; · iexact Hs
    isplitl [Hr] <;> iassumption

section Words
variable (hs : Sched.S (gsz m 0) 16 = 17408)
include hs

theorem w_tile (t : Fin (cfgA m hs).N) : rd (F := F) (pfT m 0) (grid0.coords t) = BitVec.ofNat 32 (Sched.tl (gsz m 0) t.val) := by
  have h := coords_val m hs t
  rw [rd_eq, pfT_0]
  exact (Tables.tile_ap _ hs _).trans (by rw [show (grid0.coords t 0).val = t.val from h])
theorem w_group (t : Fin (cfgA m hs).N) : rd (F := F) (pfT m 1) (grid0.coords t) = BitVec.ofNat 32 (Sched.gt (gsz m 0) t.val) := by
  have h := coords_val m hs t
  rw [rd_eq, pfT_1]
  exact (Tables.group_ap _ hs _).trans (by rw [show (grid0.coords t 0).val = t.val from h])
theorem w_start (w : BitVec 32) (g : ℕ) (hg : g < 16) (hw : w = BitVec.ofNat 32 g) (h) : rdS (F := F) (pfT m 2) w h = BitVec.ofNat 32 (Sched.S (gsz m 0) g) := by
  subst hw
  rw [rdS_eq _ g hg, pfT_2]
  exact Tables.starts_ap _ hs _
theorem w_first (t : Fin (cfgA m hs).N) : isFirst (rd (F := F) (pfT m 3) (grid0.coords t)) ↔ (t.val = 0 ∨ Sched.tl (gsz m 0) t.val ≠ Sched.tl (gsz m 0) (t.val - 1)) := by
  have h := coords_val m hs t
  rw [rd_eq, pfT_3]
  have e := (Tables.first_ap (gs m 0) hs ⟨(grid0.coords t 0).val, coord_lt _⟩)
  rw [e]
  simp only [show (grid0.coords t 0).val = t.val from h]
  by_cases hc : t.val = 0 ∨ Sched.tl (gsz m 0) t.val ≠ Sched.tl (gsz m 0) (t.val - 1)
  · rw [if_pos hc]; exact iff_of_true (by decide) hc
  · rw [if_neg hc]; exact iff_of_false (by decide) hc
theorem w_live (t : Fin (cfgA m hs).N) : k0_cond2 (rd (F := F) (pfT m 4) (grid0.coords t)) = 1#1 ↔ t.val < Sched.T (gsz m 0) := by
  have h := coords_val m hs t
  rw [rd_eq, pfT_4]
  have e := (Tables.live_ap (gs m 0) hs ⟨(grid0.coords t 0).val, coord_lt _⟩)
  rw [e]
  simp only [show (grid0.coords t 0).val = t.val from h]
  by_cases hc : t.val < Sched.T (gsz m 0)
  · rw [if_pos hc]; exact iff_of_true (by decide) hc
  · rw [if_neg hc]; exact iff_of_false (by decide) hc

theorem step_Q (t : Fin (cfgA m hs).N) (q : Vec F S512x1408 .fp8e4m3) (h : t.val = 0 ∨ q = Qk m (tF m (t.val - 1))) :
    nextQ (rd (F := F) (pfT m 3) (grid0.coords t)) (xt m (tF m t.val)) q = Qk m (tF m t.val) := by
  unfold nextQ
  split_ifs with hc
  · rfl
  · rw [w_first m hs t] at hc
    obtain ⟨h0, h1⟩ := not_or.mp hc
    rw [h.resolve_left h0]
    unfold tF
    rw [not_not.mp h1]
theorem step_S (t : Fin (cfgA m hs).N) (q : Vec F S512x128 .f32) (h : t.val = 0 ∨ q = Sk m (tF m (t.val - 1))) :
    nextS (rd (F := F) (pfT m 3) (grid0.coords t)) (xt m (tF m t.val)) q = Sk m (tF m t.val) := by
  unfold nextS
  split_ifs with hc
  · rfl
  · rw [w_first m hs t] at hc
    obtain ⟨h0, h1⟩ := not_or.mp hc
    rw [h.resolve_left h0]
    unfold tF
    rw [not_not.mp h1]

theorem step_O (c : Dev nD) (t : Fin (cfgA m hs).N) (d) (hg) :
    nextO (rd (F := F) (pfT m 4) (grid0.coords t)) (rdS (F := F) (pfT m 2) (rd (F := F) (pfT m 1) (grid0.coords t)) hg) (rd (F := F) (pfT m 0) (grid0.coords t))
      (Qk m (tF m t.val)) (Sk m (tF m t.val)) (wt m (gF m t.val)) (wst m (gF m t.val)) ((dats m hs 0 c).before 3 t d)
    = if t.val < Sched.T (gsz m 0) then O m t.val else (dats m hs 0 c).before 3 t d := by
  unfold nextO
  have hl := w_live m hs t
  have h49 := lt49 m hs t
  by_cases h : t.val < Sched.T (gsz m 0)
  · rw [if_pos (hl.mpr h), if_pos h, w_start m hs _ _ (Sched.gt_lt _ hs t.val) (w_group m hs t), w_tile m hs t]
    refine O_live m hs t.val h _ ?_
    rw [before_3, fresh_3 m hs t.val t.isLt.le h49]
    by_cases hf : t.val = 0 ∨ Sched.tl (gsz m 0) t.val ≠ Sched.tl (gsz m 0) (t.val - 1)
    · exact .inl hf
    · refine .inr ?_
      rw [decide_eq_false hf]; rfl
  · rw [if_neg (fun h' => h (hl.mp h')), if_neg h]

end Words

variable (hs : Sched.S (gsz m 0) 16 = 17408)

/-- The body at a step. -/
abbrev bodyAt (t : Fin (cfgA m hs).N) : Prog (TpuEff nD τ sig (Elt F) Λ₀ .tc) PUnit :=
  cc0_grouped_fp8 (grid0.coords t) (Memref.whole main_v45) (Memref.isWhole_whole _) (Memref.whole main_v28) (Memref.isWhole_whole _) (Memref.whole main_v1) (Memref.isWhole_whole _) (Memref.whole main_v50) (Memref.isWhole_whole _) (Memref.whole main_v53) (Memref.isWhole_whole _)
    (spec0_0.stage ((cfgA m hs).slots t 0)) (hstage0_0 (((cfgA m hs).slots t 0).cast nbuf0_0)) (spec0_1.stage ((cfgA m hs).slots t 1)) (hstage0_1 (((cfgA m hs).slots t 1).cast nbuf0_1))
    (spec0_2.stage ((cfgA m hs).slots t 2)) (hstage0_2 (((cfgA m hs).slots t 2).cast nbuf0_2)) (spec0_3.stage ((cfgA m hs).slots t 3)) (hstage0_3 (((cfgA m hs).slots t 3).cast nbuf0_3))
    (Memref.whole cc0_scratch0) (Memref.isWhole_whole _) (Memref.whole cc0_scratch1) (Memref.isWhole_whole _)

theorem defs₀_row (t : Fin (cfgA m hs).N) :
    defs₀ (F := F) .tc (cfgA m hs).body ((cfgA m hs).bodyArgs t ((cfgA m hs).slots t)) = bodyAt m hs t := by
  unfold defs₀; rw [Defs.onTc_tc]

def bodyPre (c : Dev nD) (t : Fin (cfgA m hs).N) : sProp 𝕄 :=
  iprop((dats m hs 0 c).Φ t.castSucc ∗ (dats m hs 0 c).owesAt () t.castSucc
    ∗ (∃ d, owns (c : Thread nD τ) (spec0_0.stage ((cfgA m hs).slots t 0)) fullShare ((dats m hs 0 c).before 0 t d))
    ∗ (∃ d, owns (c : Thread nD τ) (spec0_1.stage ((cfgA m hs).slots t 1)) fullShare ((dats m hs 0 c).before 1 t d))
    ∗ (∃ d, owns (c : Thread nD τ) (spec0_2.stage ((cfgA m hs).slots t 2)) fullShare ((dats m hs 0 c).before 2 t d))
    ∗ (∃ d, owns (c : Thread nD τ) (spec0_3.stage ((cfgA m hs).slots t 3)) fullShare ((dats m hs 0 c).before 3 t d)))

def post3 (c : Dev nD) (t : Fin (cfgA m hs).N) : sProp 𝕄 :=
  match (cfgA m hs).idle 3 ((cfgA m hs).grid.coords t) with
  | true =>
    match ((cfgA m hs).win 3).flush t with
    | false => iprop(∃ d, owns (c : Thread nD τ) (spec0_3.stage ((cfgA m hs).slots t 3)) fullShare ((dats m hs 0 c).before 3 t d))
    | true => owns (c : Thread nD τ) (spec0_3.stage ((cfgA m hs).slots t 3)) fullShare ((dats m hs 0 c).after 3 t)
  | false => owns (c : Thread nD τ) (spec0_3.stage ((cfgA m hs).slots t 3)) fullShare ((dats m hs 0 c).after 3 t)

def bodyPost (c : Dev nD) (t : Fin (cfgA m hs).N) : sProp 𝕄 :=
  iprop((dats m hs 0 c).Φ t.succ ∗ (dats m hs 0 c).owesAt () t.succ
    ∗ owns (c : Thread nD τ) (spec0_0.stage ((cfgA m hs).slots t 0)) fullShare ((dats m hs 0 c).after 0 t)
    ∗ owns (c : Thread nD τ) (spec0_1.stage ((cfgA m hs).slots t 1)) fullShare ((dats m hs 0 c).after 1 t)
    ∗ owns (c : Thread nD τ) (spec0_2.stage ((cfgA m hs).slots t 2)) fullShare ((dats m hs 0 c).after 2 t)
    ∗ post3 m hs c t)

theorem post3_of (c : Dev nD) (t : Fin (cfgA m hs).N) (d) :
    owns (c : Thread nD τ) (spec0_3.stage ((cfgA m hs).slots t 3)) fullShare (if t.val < Sched.T (gsz m 0) then O m t.val else (dats m hs 0 c).before 3 t d)
      ⊢ post3 m hs c t := by
  have h49 := lt49 m hs t
  unfold post3
  by_cases h : t.val < Sched.T (gsz m 0)
  · have hi : (cfgA m hs).idle 3 ((cfgA m hs).grid.coords t) = false := by rw [idle_3, decide_eq_true h]; rfl
    rw [hi, if_pos h, after_3]
  · have hi : (cfgA m hs).idle 3 ((cfgA m hs).grid.coords t) = true := by rw [idle_3, decide_eq_false h]; rfl
    rw [hi, if_neg h]
    have hI := Sched.T_le_of_idle _ hs t.val (by omega)
    cases hf : ((cfgA m hs).win 3).flush t
    · iintro H; iexists d; iexact H
    · rw [before_3, fresh_3 m hs t.val t.isLt.le h49, decide_eq_false (by omega), after_3, O_idle m hs t.val (by omega)]
      exact .rfl

set_option maxHeartbeats 1000000 in
theorem sound_body (c : Dev nD) (t : Fin (cfgA m hs).N) :
    bodyPre m hs c t ⊢ wp frame (wpE (defs₀ (F := F)) Variants.none c none) Set.univ (bodyAt m hs t) (fun _ => bodyPost m hs c t) := by
  have hg : k0_chk1 (rd (F := F) (pfT m 1) (grid0.coords t)) := by
    rw [w_group m hs t]; exact chk1 _ (Sched.gt_lt _ hs _)
  unfold bodyPre bodyPost bodyAt
  simp only [before_0, before_1, before_2, after_0, after_1, after_2]
  rw [Phi_at, Phi_at, Fin.val_castSucc, Fin.val_succ, show (dats m hs 0 c).owesAt () t.succ = (dats m hs 0 c).owesAt () t.castSucc from rfl]
  iintro ⟨HΦ, Ho, ⟨%d0, H0⟩, ⟨%d1, H1⟩, ⟨%d2, H2⟩, ⟨%d3, H3⟩⟩
  ihave HΦ' := (phi_open m c t.val) $$ HΦ
  icases HΦ' with ⟨%q, %s, %hq, Hq, Hs, Hr, Ht⟩
  ihave Ht' := (Entails.of_eq (phiT_eq m c)) $$ Ht
  icases Ht' with ⟨T1, T2, T3, T4, T5⟩
  iapply (body_run c Set.univ (grid0.coords t) _ _ _ _ _ _ _ _ _ _ _ _ _ _ _ _ _ _ _ _ _ _ fullShare.right (pfT m 0) (pfT m 1) (pfT m 2) (pfT m 3) (pfT m 4)
    (xt m (tF m t.val)) (wt m (gF m t.val)) (wst m (gF m t.val)) ((dats m hs 0 c).before 3 t d3) q s hg _)
  isplitl [T1]; · iexact T1
  isplitl [T2]; · iexact T2
  isplitl [T3]; · iexact T3
  isplitl [T4]; · iexact T4
  isplitl [T5]; · iexact T5
  isplitl [H0]; · iexact H0
  isplitl [H1]; · iexact H1
  isplitl [H2]; · iexact H2
  isplitl [H3]; · iexact H3
  isplitl [Hq]; · iexact Hq
  isplitl [Hs]; · iexact Hs
  have hQ := step_Q m hs t q (hq.imp_right And.left)
  have hS := step_S m hs t s (hq.imp_right And.right)
  have hO := step_O m hs c t d3 hg
  rw [hQ, hS, hO]
  iintro ⟨T1, T2, T3, T4, T5, H0, H1, H2, H3, Hq, Hs⟩
  isplitl [Hq Hs Hr T1 T2 T3 T4 T5]
  · unfold Phi
    isplitl [Hq Hs]
    · isplitl [Hq]; · iexact Hq
      iexact Hs
    isplitl [Hr]; · iexact Hr
    rw [phiT_eq]
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  iapply (post3_of m hs c t d3)
  iexact H3

theorem body_obligation (c : Dev nD) : BodyObligation (dats (F := F) m hs 0 c) defs₀ Variants.none () Set.univ := fun t => by
  rw [bigSep_W0, bigSep_W0, defs₀_row]
  exact triple_restated (sound_body m hs c t) rfl .rfl fun _ => .rfl

theorem hin (c : Dev nD) : iprop(Pipeline.ΦA spec0 c ∗ Pipeline.ΦT pre0 (pfT m) c) ⊢ (dats m hs 0 c).Φ 0 := by
  rw [Phi_at]
  show _ ⊢ Phi m c 0
  unfold Phi
  unfold Pipeline.ΦA
  iintro ⟨⟨Hs, Hr⟩, Ht⟩
  isplitl [Hs]
  · ihave H := (Entails.of_eq (scopedRest0_eq (Val := Elt F) c)) $$ Hs
    iexact H
  isplitl [Hr]; · iexact Hr
  iexact Ht

theorem hout (c : Dev nD) : (dats m hs 0 c).Φ (Fin.last (cfgA m hs).N) ⊢ Pipeline.ΦA spec0 c := by
  rw [Phi_at]
  unfold Pipeline.ΦA
  iintro H
  ihave H' := (phi_open m c _) $$ H
  icases H' with ⟨%q, %s, %hq, Hq, Hs, Hr, Ht⟩
  isplitl [Hq Hs]
  · iapply (Entails.of_eq (scopedRest0_eq (Val := Elt F) c).symm)
    isplitl [Hq]
    · iexists q; rw [← owns_whole]; iexact Hq
    · iexists s; rw [← owns_whole]; iexact Hs
  iexact Hr

variable (ρ : Dev nD → PrngReg)

set_option maxHeartbeats 800000 in
theorem run_main : θ_run (defs (F := F)) (onTc (τ := τ) (main (F := F))) ⟨m, fun _ => 0, ρ⟩
    (fun r => Pipeline.FramePost (Pipeline.pin pcfgs (adm m hs)) (dats m hs) 0 (V m) r ∧ r.2.sem = fun _ => 0) :=
  Pipeline.θ_run_frameP_track (Q' := _) pcfgs (adm m hs) (dats m hs) (0 : Fin 1) launch0 defs₀ Variants.none m ρ main
    (hbody := fun c => (body_obligation m hs c).loose) (hshare := fun c => (dats m hs 0 c).share_full fun _ => rfl) (howed := fun _ _ => rfl)
    (V := V m) (hmain := hmain m Variants.none) (hA := fun _ _ => rfl) (hpf := fun c k => by rw [dev_eq c]; rfl)
    (hin := hin m hs) (hout := hout m hs) (hQ' := fun _ h => h)

theorem rest_1 : ∀ w : Fin 4, (spec0 w).arr.view.ref ≠ main_arg1 := by decide
theorem rest_3 : ∀ w : Fin 4, (spec0 w).arr.view.ref ≠ main_arg3 := by decide

theorem end_in0 {r} (h : Pipeline.FramePost (Pipeline.pin pcfgs (adm m hs)) (dats m hs) 0 (V m) r) (c : Dev nD) :
    r.2.mem ((c.tc : Thread nD τ).loc main_arg0) = m ((c.tc : Thread nD τ).loc main_arg0) :=
  ((h c).1 0).trans (((dats m hs 0 c).arrAt_in 0 rfl _).trans ((A_eq m hs c 0).trans (V_arg0 m c)))
theorem end_in1 {r} (h : Pipeline.FramePost (Pipeline.pin pcfgs (adm m hs)) (dats m hs) 0 (V m) r) (c : Dev nD) :
    r.2.mem ((c.tc : Thread nD τ).loc main_arg1) = m ((c.tc : Thread nD τ).loc main_arg1) :=
  ((h c).2 main_arg1 (Pipeline.mem_restRefs_of main_arg1 (by decide) (rest_1))).trans (V_arg1 m c)
theorem end_in2 {r} (h : Pipeline.FramePost (Pipeline.pin pcfgs (adm m hs)) (dats m hs) 0 (V m) r) (c : Dev nD) :
    r.2.mem ((c.tc : Thread nD τ).loc main_arg2) = m ((c.tc : Thread nD τ).loc main_arg2) :=
  ((h c).1 1).trans (((dats m hs 0 c).arrAt_in 1 rfl _).trans ((A_eq m hs c 1).trans (V_arg2 m c)))
theorem end_in3 {r} (h : Pipeline.FramePost (Pipeline.pin pcfgs (adm m hs)) (dats m hs) 0 (V m) r) (c : Dev nD) :
    r.2.mem ((c.tc : Thread nD τ).loc main_arg3) = m ((c.tc : Thread nD τ).loc main_arg3) :=
  ((h c).2 main_arg3 (Pipeline.mem_restRefs_of main_arg3 (by decide) (rest_3))).trans (V_arg3 m c)

include hs in
/-- From any memory whose group sizes fill the rows: the run ends with the arguments unchanged and every counter at zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r (h : _ ∧ _) => ⟨fun c => ⟨end_in0 m hs h.1 c, end_in1 m hs h.1 c, end_in2 m hs h.1 c, end_in3 m hs h.1 c⟩, h.2⟩) (run_main m hs ρ)

end Cert.Kernel.Run
-- ==== Proof.HostI.lean ====
module

public import proofs.«01_k».proof.Proof.Host
public import proofs.«01_k».proof.Proof.Gen.KernelIdeal.Launch
public import proofs.«01_k».proof.Proof.Tables
public import Idealize.ShloMosaic.Lib.StableHlo.RunRead
public import Idealize.ShloMosaic.Lib.Pipeline.FrameBody
public import Idealize.ShloMosaic.Lib.Claim

/-! What the host computes before the launch: the arrays as the launch finds them, and the launch's place in the program. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

/-- The group sizes core `c` is given. -/
abbrev gs (c : Dev nD) : IVec (Routing.shape1 16) 32 := m ((c : Thread nD τ).loc main_arg1)

theorem of_arg1 (h h' h'') (x : (⟨S16, .i32⟩ : BufTy).Contents (Elt F)) : (StableHlo.TRef.of main_arg1 h h' h'' : StableHlo.TRef sig ⟨S16, .i32⟩).ofBuf x = x := rfl
theorem to_arg1 (h h' h'') (x : (⟨S16, .i32⟩ : BufTy).Contents (Elt F)) : (StableHlo.TRef.of main_arg1 h h' h'' : StableHlo.TRef sig ⟨S16, .i32⟩).toBuf x = x := rfl
theorem of_v0 (h h' h'') (x : (⟨S16, .i32⟩ : BufTy).Contents (Elt F)) : (StableHlo.TRef.of main_v0 h h' h'' : StableHlo.TRef sig ⟨S16, .i32⟩).ofBuf x = x := rfl
theorem to_v0 (h h' h'') (x : (⟨S16, .i32⟩ : BufTy).Contents (Elt F)) : (StableHlo.TRef.of main_v0 h h' h'' : StableHlo.TRef sig ⟨S16, .i32⟩).toBuf x = x := rfl
theorem of_v1 (h h' h'') (x : (⟨S16, .i32⟩ : BufTy).Contents (Elt F)) : (StableHlo.TRef.of main_v1 h h' h'' : StableHlo.TRef sig ⟨S16, .i32⟩).ofBuf x = x := rfl
theorem to_v1 (h h' h'') (x : (⟨S16, .i32⟩ : BufTy).Contents (Elt F)) : (StableHlo.TRef.of main_v1 h h' h'' : StableHlo.TRef sig ⟨S16, .i32⟩).toBuf x = x := rfl
theorem of_c (h h' h'') (x : (⟨S_, .i32⟩ : BufTy).Contents (Elt F)) : (StableHlo.TRef.of main_c h h' h'' : StableHlo.TRef sig ⟨S_, .i32⟩).ofBuf x = x := rfl
theorem to_c (h h' h'') (x : (⟨S_, .i32⟩ : BufTy).Contents (Elt F)) : (StableHlo.TRef.of main_c h h' h'' : StableHlo.TRef sig ⟨S_, .i32⟩).toBuf x = x := rfl
theorem of_v2 (h h' h'') (x : (⟨S16, .i32⟩ : BufTy).Contents (Elt F)) : (StableHlo.TRef.of main_v2 h h' h'' : StableHlo.TRef sig ⟨S16, .i32⟩).ofBuf x = x := rfl
theorem to_v2 (h h' h'') (x : (⟨S16, .i32⟩ : BufTy).Contents (Elt F)) : (StableHlo.TRef.of main_v2 h h' h'' : StableHlo.TRef sig ⟨S16, .i32⟩).toBuf x = x := rfl
theorem of_v8 (h h' h'') (x : (⟨S16, .i32⟩ : BufTy).Contents (Elt F)) : (StableHlo.TRef.of main_v8 h h' h'' : StableHlo.TRef sig ⟨S16, .i32⟩).ofBuf x = x := rfl
theorem to_v8 (h h' h'') (x : (⟨S16, .i32⟩ : BufTy).Contents (Elt F)) : (StableHlo.TRef.of main_v8 h h' h'' : StableHlo.TRef sig ⟨S16, .i32⟩).toBuf x = x := rfl
theorem of_c_3 (h h' h'') (x : (⟨S_, .i32⟩ : BufTy).Contents (Elt F)) : (StableHlo.TRef.of main_c_3 h h' h'' : StableHlo.TRef sig ⟨S_, .i32⟩).ofBuf x = x := rfl
theorem to_c_3 (h h' h'') (x : (⟨S_, .i32⟩ : BufTy).Contents (Elt F)) : (StableHlo.TRef.of main_c_3 h h' h'' : StableHlo.TRef sig ⟨S_, .i32⟩).toBuf x = x := rfl
theorem of_v9 (h h' h'') (x : (⟨S16, .i32⟩ : BufTy).Contents (Elt F)) : (StableHlo.TRef.of main_v9 h h' h'' : StableHlo.TRef sig ⟨S16, .i32⟩).ofBuf x = x := rfl
theorem to_v9 (h h' h'') (x : (⟨S16, .i32⟩ : BufTy).Contents (Elt F)) : (StableHlo.TRef.of main_v9 h h' h'' : StableHlo.TRef sig ⟨S16, .i32⟩).toBuf x = x := rfl
theorem of_v10 (h h' h'') (x : (⟨S16, .i32⟩ : BufTy).Contents (Elt F)) : (StableHlo.TRef.of main_v10 h h' h'' : StableHlo.TRef sig ⟨S16, .i32⟩).ofBuf x = x := rfl
theorem to_v10 (h h' h'') (x : (⟨S16, .i32⟩ : BufTy).Contents (Elt F)) : (StableHlo.TRef.of main_v10 h h' h'' : StableHlo.TRef sig ⟨S16, .i32⟩).toBuf x = x := rfl
theorem of_c_4 (h h' h'') (x : (⟨S_, .i32⟩ : BufTy).Contents (Elt F)) : (StableHlo.TRef.of main_c_4 h h' h'' : StableHlo.TRef sig ⟨S_, .i32⟩).ofBuf x = x := rfl
theorem to_c_4 (h h' h'') (x : (⟨S_, .i32⟩ : BufTy).Contents (Elt F)) : (StableHlo.TRef.of main_c_4 h h' h'' : StableHlo.TRef sig ⟨S_, .i32⟩).toBuf x = x := rfl
theorem of_v11 (h h' h'') (x : (⟨S16, .i32⟩ : BufTy).Contents (Elt F)) : (StableHlo.TRef.of main_v11 h h' h'' : StableHlo.TRef sig ⟨S16, .i32⟩).ofBuf x = x := rfl
theorem to_v11 (h h' h'') (x : (⟨S16, .i32⟩ : BufTy).Contents (Elt F)) : (StableHlo.TRef.of main_v11 h h' h'' : StableHlo.TRef sig ⟨S16, .i32⟩).toBuf x = x := rfl
theorem of_v12 (h h' h'') (x : (⟨S16, .i32⟩ : BufTy).Contents (Elt F)) : (StableHlo.TRef.of main_v12 h h' h'' : StableHlo.TRef sig ⟨S16, .i32⟩).ofBuf x = x := rfl
theorem to_v12 (h h' h'') (x : (⟨S16, .i32⟩ : BufTy).Contents (Elt F)) : (StableHlo.TRef.of main_v12 h h' h'' : StableHlo.TRef sig ⟨S16, .i32⟩).toBuf x = x := rfl
theorem of_v13 (h h' h'') (x : (⟨S49, .i32⟩ : BufTy).Contents (Elt F)) : (StableHlo.TRef.of main_v13 h h' h'' : StableHlo.TRef sig ⟨S49, .i32⟩).ofBuf x = x := rfl
theorem to_v13 (h h' h'') (x : (⟨S49, .i32⟩ : BufTy).Contents (Elt F)) : (StableHlo.TRef.of main_v13 h h' h'' : StableHlo.TRef sig ⟨S49, .i32⟩).toBuf x = x := rfl
theorem of_v14 (h h' h'') (x : (⟨S49, .i32⟩ : BufTy).Contents (Elt F)) : (StableHlo.TRef.of main_v14 h h' h'' : StableHlo.TRef sig ⟨S49, .i32⟩).ofBuf x = x := rfl
theorem to_v14 (h h' h'') (x : (⟨S49, .i32⟩ : BufTy).Contents (Elt F)) : (StableHlo.TRef.of main_v14 h h' h'' : StableHlo.TRef sig ⟨S49, .i32⟩).toBuf x = x := rfl
theorem of_v4 (h h' h'') (x : (⟨S16, .i1⟩ : BufTy).Contents (Elt F)) : (StableHlo.TRef.of main_v4 h h' h'' : StableHlo.TRef sig ⟨S16, .i1⟩).ofBuf x = x := rfl
theorem after_append (l₁ l₂ : List (HloOp τ sig (Elt F))) (e : Valuation τ sig (Elt F)) :
    StableHlo.after (l₁ ++ l₂) e = StableHlo.after l₂ (StableHlo.after l₁ e) := by
  induction l₁ generalizing e with
  | nil => rfl
  | cons o l ih => exact ih _

/-- The last line of host operations up to the group table. -/
abbrev opsA : List (HloOp τ sig (Elt F)) :=
  [ StableHlo.nullary main_c_5 (constantI S_ 32 15#32),
    StableHlo.unary main_c_5 main_v15 (broadcastInDim S49 ![] bcast_S_S49 : (⟨S_, .i32⟩ : BufTy).Contents (Elt F) → (⟨S49, .i32⟩ : BufTy).Contents (Elt F)),
    StableHlo.binary main_v14 main_v15 main_v16 (minsi : (⟨S49, .i32⟩ : BufTy).Contents (Elt F) → (⟨S49, .i32⟩ : BufTy).Contents (Elt F) → (⟨S49, .i32⟩ : BufTy).Contents (Elt F)),
    StableHlo.unary main_v12 main_v17 ((extractStridedSlice S1 ![15] · slices_S16_S1_15) : (⟨S16, .i32⟩ : BufTy).Contents (Elt F) → (⟨S1, .i32⟩ : BufTy).Contents (Elt F)),
    StableHlo.reshape main_v17 main_v18 (rfl : (.i32 : EltTy) = .i32) shapeCasts_S1_S_,
    StableHlo.nullary main_c_6 (constantI S_ 32 1#32),
    StableHlo.binary main_v18 main_c_6 main_v19 (subi : (⟨S_, .i32⟩ : BufTy).Contents (Elt F) → (⟨S_, .i32⟩ : BufTy).Contents (Elt F) → (⟨S_, .i32⟩ : BufTy).Contents (Elt F)),
    StableHlo.unary main_v19 main_v20 (broadcastInDim S49 ![] bcast_S_S49 : (⟨S_, .i32⟩ : BufTy).Contents (Elt F) → (⟨S49, .i32⟩ : BufTy).Contents (Elt F)),
    StableHlo.binary main_v13 main_v20 main_v21 (minsi : (⟨S49, .i32⟩ : BufTy).Contents (Elt F) → (⟨S49, .i32⟩ : BufTy).Contents (Elt F) → (⟨S49, .i32⟩ : BufTy).Contents (Elt F)),
    StableHlo.nullary main_c_7 (constantI S_ 32 0#32),
    StableHlo.unary main_c_7 main_v22 (broadcastInDim S49 ![] bcast_S_S49 : (⟨S_, .i32⟩ : BufTy).Contents (Elt F) → (⟨S49, .i32⟩ : BufTy).Contents (Elt F)),
    StableHlo.binary main_v21 main_v22 main_v23 (cmpi .slt : (⟨S49, .i32⟩ : BufTy).Contents (Elt F) → (⟨S49, .i32⟩ : BufTy).Contents (Elt F) → (⟨S49, .i1⟩ : BufTy).Contents (Elt F)),
    StableHlo.nullary main_c_8 (constantI S_ 32 49#32),
    StableHlo.unary main_c_8 main_v24 (broadcastInDim S49 ![] bcast_S_S49 : (⟨S_, .i32⟩ : BufTy).Contents (Elt F) → (⟨S49, .i32⟩ : BufTy).Contents (Elt F)),
    StableHlo.binary main_v21 main_v24 main_v25 (addi : (⟨S49, .i32⟩ : BufTy).Contents (Elt F) → (⟨S49, .i32⟩ : BufTy).Contents (Elt F) → (⟨S49, .i32⟩ : BufTy).Contents (Elt F)),
    StableHlo.ternary main_v23 main_v25 main_v21 main_v26 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    StableHlo.unary main_v26 main_v27 (broadcastInDim S49x1 ![0] bcast_S49_S49x1_0 : (⟨S49, .i32⟩ : BufTy).Contents (Elt F) → (⟨S49x1, .i32⟩ : BufTy).Contents (Elt F)),
    StableHlo.binary main_v16 main_v27 main_v28 ((fun x i => Host.gather gather_S49_S49x1_S49_n_0_n_n_0_1_1 x i) : (⟨S49, .i32⟩ : BufTy).Contents (Elt F) → (⟨S49x1, .i32⟩ : BufTy).Contents (Elt F) → (⟨S49, .i32⟩ : BufTy).Contents (Elt F)) ]
/-- The same line up to the tile table. -/
abbrev opsB : List (HloOp τ sig (Elt F)) :=
  [ StableHlo.nullary main_c_9 (constantI S_ 32 0#32),
    StableHlo.unary main_c_9 main_v29 (broadcastInDim S49 ![] bcast_S_S49 : (⟨S_, .i32⟩ : BufTy).Contents (Elt F) → (⟨S49, .i32⟩ : BufTy).Contents (Elt F)),
    StableHlo.binary main_v28 main_v29 main_v30 (cmpi .slt : (⟨S49, .i32⟩ : BufTy).Contents (Elt F) → (⟨S49, .i32⟩ : BufTy).Contents (Elt F) → (⟨S49, .i1⟩ : BufTy).Contents (Elt F)),
    StableHlo.nullary main_c_10 (constantI S_ 32 16#32),
    StableHlo.unary main_c_10 main_v31 (broadcastInDim S49 ![] bcast_S_S49 : (⟨S_, .i32⟩ : BufTy).Contents (Elt F) → (⟨S49, .i32⟩ : BufTy).Contents (Elt F)),
    StableHlo.binary main_v28 main_v31 main_v32 (addi : (⟨S49, .i32⟩ : BufTy).Contents (Elt F) → (⟨S49, .i32⟩ : BufTy).Contents (Elt F) → (⟨S49, .i32⟩ : BufTy).Contents (Elt F)),
    StableHlo.ternary main_v30 main_v32 main_v28 main_v33 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    StableHlo.unary main_v33 main_v34 (broadcastInDim S49x1 ![0] bcast_S49_S49x1_0 : (⟨S49, .i32⟩ : BufTy).Contents (Elt F) → (⟨S49x1, .i32⟩ : BufTy).Contents (Elt F)),
    StableHlo.binary main_v2 main_v34 main_v35 ((fun x i => Host.gather gather_S16_S49x1_S49_n_0_n_n_0_1_1 x i) : (⟨S16, .i32⟩ : BufTy).Contents (Elt F) → (⟨S49x1, .i32⟩ : BufTy).Contents (Elt F) → (⟨S49, .i32⟩ : BufTy).Contents (Elt F)),
    StableHlo.binary main_v35 main_v21 main_v36 (addi : (⟨S49, .i32⟩ : BufTy).Contents (Elt F) → (⟨S49, .i32⟩ : BufTy).Contents (Elt F) → (⟨S49, .i32⟩ : BufTy).Contents (Elt F)),
    StableHlo.binary main_v12 main_v11 main_v37 (subi : (⟨S16, .i32⟩ : BufTy).Contents (Elt F) → (⟨S16, .i32⟩ : BufTy).Contents (Elt F) → (⟨S16, .i32⟩ : BufTy).Contents (Elt F)),
    StableHlo.nullary main_c_11 (constantI S_ 32 0#32),
    StableHlo.unary main_c_11 main_v38 (broadcastInDim S49 ![] bcast_S_S49 : (⟨S_, .i32⟩ : BufTy).Contents (Elt F) → (⟨S49, .i32⟩ : BufTy).Contents (Elt F)),
    StableHlo.binary main_v28 main_v38 main_v39 (cmpi .slt : (⟨S49, .i32⟩ : BufTy).Contents (Elt F) → (⟨S49, .i32⟩ : BufTy).Contents (Elt F) → (⟨S49, .i1⟩ : BufTy).Contents (Elt F)),
    StableHlo.nullary main_c_12 (constantI S_ 32 16#32),
    StableHlo.unary main_c_12 main_v40 (broadcastInDim S49 ![] bcast_S_S49 : (⟨S_, .i32⟩ : BufTy).Contents (Elt F) → (⟨S49, .i32⟩ : BufTy).Contents (Elt F)),
    StableHlo.binary main_v28 main_v40 main_v41 (addi : (⟨S49, .i32⟩ : BufTy).Contents (Elt F) → (⟨S49, .i32⟩ : BufTy).Contents (Elt F) → (⟨S49, .i32⟩ : BufTy).Contents (Elt F)),
    StableHlo.ternary main_v39 main_v41 main_v28 main_v42 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    StableHlo.unary main_v42 main_v43 (broadcastInDim S49x1 ![0] bcast_S49_S49x1_0 : (⟨S49, .i32⟩ : BufTy).Contents (Elt F) → (⟨S49x1, .i32⟩ : BufTy).Contents (Elt F)),
    StableHlo.binary main_v37 main_v43 main_v44 ((fun x i => Host.gather gather_S16_S49x1_S49_n_0_n_n_0_1_1 x i) : (⟨S16, .i32⟩ : BufTy).Contents (Elt F) → (⟨S49x1, .i32⟩ : BufTy).Contents (Elt F) → (⟨S49, .i32⟩ : BufTy).Contents (Elt F)),
    StableHlo.binary main_v36 main_v44 main_v45 (subi : (⟨S49, .i32⟩ : BufTy).Contents (Elt F) → (⟨S49, .i32⟩ : BufTy).Contents (Elt F) → (⟨S49, .i32⟩ : BufTy).Contents (Elt F)) ]
/-- The rest of that line. -/
abbrev opsC : List (HloOp τ sig (Elt F)) :=
  [ StableHlo.nullary main_c_13 (constantI S_ 32 4294967295#32),
    StableHlo.unary main_c_13 main_v46 (broadcastInDim S1 ![] bcast_S_S1 : (⟨S_, .i32⟩ : BufTy).Contents (Elt F) → (⟨S1, .i32⟩ : BufTy).Contents (Elt F)),
    StableHlo.unary main_v45 main_v47 ((extractStridedSlice S48 ![0] · slices_S49_S48_0) : (⟨S49, .i32⟩ : BufTy).Contents (Elt F) → (⟨S48, .i32⟩ : BufTy).Contents (Elt F)),
    StableHlo.binary main_v46 main_v47 main_v48 ((fun a b => concatenate S49 0 [⟨S1, a⟩, ⟨S48, b⟩] concatenates_S1_S48_S49_d0) : (⟨S1, .i32⟩ : BufTy).Contents (Elt F) → (⟨S48, .i32⟩ : BufTy).Contents (Elt F) → (⟨S49, .i32⟩ : BufTy).Contents (Elt F)),
    StableHlo.binary main_v45 main_v48 main_v49 (cmpi .ne : (⟨S49, .i32⟩ : BufTy).Contents (Elt F) → (⟨S49, .i32⟩ : BufTy).Contents (Elt F) → (⟨S49, .i1⟩ : BufTy).Contents (Elt F)),
    StableHlo.unary main_v49 main_v50 ((extui 32 · natLt_1_32) : (⟨S49, .i1⟩ : BufTy).Contents (Elt F) → (⟨S49, .i32⟩ : BufTy).Contents (Elt F)),
    StableHlo.unary main_v19 main_v51 (broadcastInDim S49 ![] bcast_S_S49 : (⟨S_, .i32⟩ : BufTy).Contents (Elt F) → (⟨S49, .i32⟩ : BufTy).Contents (Elt F)),
    StableHlo.binary main_v13 main_v51 main_v52 (cmpi .sle : (⟨S49, .i32⟩ : BufTy).Contents (Elt F) → (⟨S49, .i32⟩ : BufTy).Contents (Elt F) → (⟨S49, .i1⟩ : BufTy).Contents (Elt F)),
    StableHlo.unary main_v52 main_v53 ((extui 32 · natLt_1_32) : (⟨S49, .i1⟩ : BufTy).Contents (Elt F) → (⟨S49, .i32⟩ : BufTy).Contents (Elt F)),
    StableHlo.reshape main_arg3 main_v54 (rfl : (.f32 : EltTy) = .f32) shapeCasts_S16x2816_S16x1x2816 ]

theorem ops_split : (hostOps0_10 : List (HloOp τ sig (Elt F))) = opsA ++ (opsB ++ opsC) := rfl

variable (e : Valuation τ sig (Elt F))

/-- After the first stage: the starts and the first tiles. -/
abbrev E1 (e : Valuation τ sig (Elt F)) : Valuation τ sig (Elt F) :=
  StableHlo.after (List.flatten [hostOps0, hostOps0_1, hostOps0_2]) e
/-- After the second: the visits and their running sums. -/
abbrev E2 (e : Valuation τ sig (Elt F)) : Valuation τ sig (Elt F) :=
  StableHlo.after (List.flatten [hostOps0_3, hostOps0_4, hostOps0_5, hostOps0_6, hostOps0_7]) e
/-- After the third: the step numbers and the counts. -/
abbrev E3 (e : Valuation τ sig (Elt F)) : Valuation τ sig (Elt F) :=
  StableHlo.after (List.flatten [hostOps0_8, hostOps0_9]) e
/-- After the fourth: the group table. -/
abbrev E4 (e : Valuation τ sig (Elt F)) : Valuation τ sig (Elt F) := StableHlo.after opsA e
/-- After the fifth: the tile table. -/
abbrev E5 (e : Valuation τ sig (Elt F)) : Valuation τ sig (Elt F) := StableHlo.after opsB e
/-- After the sixth: all. -/
abbrev E6 (e : Valuation τ sig (Elt F)) : Valuation τ sig (Elt F) := StableHlo.after opsC e

theorem V_eq (c : Dev nD) (b : Ref sig .tc) : V m c b = E6 (E5 (E4 (E3 (E2 (E1 fun b => m (c, b)))))) b := by
  unfold V E1 E2 E3 E4 E5 E6
  rw [ops_split]
  simp only [List.flatten_cons, List.flatten_nil, List.append_nil, after_append]

theorem E1_arg1 : E1 e main_arg1 = e main_arg1 := by
  unfold_abbrev_sides
  after_reads_simp
  try rfl
theorem E1_v0 : E1 e main_v0 = Tables.cums (e main_arg1) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E1_v1 : E1 e main_v1 = Tables.starts (e main_arg1) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E1_v2 : E1 e main_v2 = Tables.firstTile (e main_arg1) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
/-- The visits from the running sums and the first tiles. -/
def visits' (x s f : IVec (Routing.shape1 16) 32) : IVec (Routing.shape1 16) 32 :=
  select (cmpi .sgt x (broadcastInDim (Routing.shape1 16) ![] Tables.b16 (constantI Routing.shape0 32 0#32)))
    (subi (Routing.pyDiv Tables.b16 (subi (addi s (broadcastInDim (Routing.shape1 16) ![] Tables.b16 (constantI Routing.shape0 32 512#32)))
      (broadcastInDim (Routing.shape1 16) ![] Tables.b16 (constantI Routing.shape0 32 1#32))) (constantI Routing.shape0 32 512#32)) f)
    (broadcastInDim (Routing.shape1 16) ![] Tables.b16 (constantI Routing.shape0 32 0#32))
theorem E2_v1 : E2 e main_v1 = e main_v1 := by
  unfold_abbrev_sides
  after_reads_simp
  try rfl
theorem E2_v2 : E2 e main_v2 = e main_v2 := by
  unfold_abbrev_sides
  after_reads_simp
  try rfl
theorem E2_v11 : E2 e main_v11 = visits' (e main_arg1) (e main_v0) (e main_v2) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E2_v12 : E2 e main_v12 = Tables.cums (visits' (e main_arg1) (e main_v0) (e main_v2)) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
/-- The number of running sums at or below each step. -/
def count' (v : IVec (Routing.shape1 16) 32) : IVec (Routing.shape1 49) 32 :=
  Host.reduce IntOp.addi (extui 32 (cmpi .sle
      (broadcastInDim (Routing.shape2 16 49) ![0, 1] Tables.cols (broadcastInDim (Routing.shape2 16 1) ![0] Tables.col16 v))
      (broadcastInDim (Routing.shape2 16 49) ![0, 1] Tables.rows (broadcastInDim (Routing.shape2 1 49) ![1] Tables.row49 (iotaInDim (Routing.shape1 49) 32 0)))) Tables.h132)
    (constantI Routing.shape0 32 0#32) Tables.red Tables.hu
/-- The last live step. -/
def last' (v : IVec (Routing.shape1 16) 32) : IVec Routing.shape0 32 :=
  subi (shapeCast Routing.shape0 (extractStridedSlice (Routing.shape1 1) ![15] v Tables.sl15) Tables.sc1) (constantI Routing.shape0 32 1#32)
/-- Each step, held at the last live one. -/
def held' (i : IVec (Routing.shape1 49) 32) (v : IVec (Routing.shape1 16) 32) : IVec (Routing.shape1 49) 32 :=
  minsi i (broadcastInDim (Routing.shape1 49) ![] Tables.b49 (last' v))
theorem E3_v1 : E3 e main_v1 = e main_v1 := by
  unfold_abbrev_sides
  after_reads_simp
  try rfl
theorem E3_v2 : E3 e main_v2 = e main_v2 := by
  unfold_abbrev_sides
  after_reads_simp
  try rfl
theorem E3_v11 : E3 e main_v11 = e main_v11 := by
  unfold_abbrev_sides
  after_reads_simp
  try rfl
theorem E3_v12 : E3 e main_v12 = e main_v12 := by
  unfold_abbrev_sides
  after_reads_simp
  try rfl
theorem E3_v13 : E3 e main_v13 = iotaInDim (Routing.shape1 49) 32 0 := by
  unfold_abbrev_sides
  after_reads_simp
  try simp only [of_v1]
  try rfl
theorem E3_v14 : E3 e main_v14 = count' (e main_v12) := by
  unfold_abbrev_sides
  after_reads_simp
  simp only [StableHlo.TRef.ofBuf_toBuf, id_eq, of_arg1, to_arg1, of_v0, to_v0, of_v1, to_v1, of_c, to_c, of_v2, to_v2, of_v8, to_v8, of_c_3, to_c_3, of_v9, to_v9, of_v10, to_v10, of_c_4, to_c_4, of_v11, to_v11, of_v12, to_v12, of_v13, to_v13, of_v14, to_v14, of_v4]
  try rfl
theorem E4_v1 : E4 e main_v1 = e main_v1 := by
  unfold_abbrev_sides
  after_reads_simp
  try rfl
theorem E4_v2 : E4 e main_v2 = e main_v2 := by
  unfold_abbrev_sides
  after_reads_simp
  try rfl
theorem E4_v11 : E4 e main_v11 = e main_v11 := by
  unfold_abbrev_sides
  after_reads_simp
  try rfl
theorem E4_v12 : E4 e main_v12 = e main_v12 := by
  unfold_abbrev_sides
  after_reads_simp
  try rfl
theorem E4_v13 : E4 e main_v13 = e main_v13 := by
  unfold_abbrev_sides
  after_reads_simp
  try rfl
theorem E4_v19 : E4 e main_v19 = last' (e main_v12) := by
  unfold_abbrev_sides
  after_reads_simp
  try rfl
theorem E4_v21 : E4 e main_v21 = held' (e main_v13) (e main_v12) := by
  unfold_abbrev_sides
  after_reads_simp
  try rfl
theorem E4_v28 : E4 e main_v28 = Host.gather Tables.gd49 (minsi (e main_v14) (broadcastInDim (Routing.shape1 49) ![] Tables.b49 (constantI Routing.shape0 32 15#32))) (Tables.wrap 49#32 (held' (e main_v13) (e main_v12))) := by
  unfold_abbrev_sides
  after_reads_simp
  try rfl
theorem E5_v1 : E5 e main_v1 = e main_v1 := by
  unfold_abbrev_sides
  after_reads_simp
  try rfl
theorem E5_v13 : E5 e main_v13 = e main_v13 := by
  unfold_abbrev_sides
  after_reads_simp
  try rfl
theorem E5_v19 : E5 e main_v19 = e main_v19 := by
  unfold_abbrev_sides
  after_reads_simp
  try rfl
theorem E5_v28 : E5 e main_v28 = e main_v28 := by
  unfold_abbrev_sides
  after_reads_simp
  try rfl
theorem E5_v45 : E5 e main_v45 = subi (addi (Host.gather Tables.gd16 (e main_v2) (Tables.wrap 16#32 (e main_v28))) (e main_v21))
    (Host.gather Tables.gd16 (subi (e main_v12) (e main_v11)) (Tables.wrap 16#32 (e main_v28))) := by
  unfold_abbrev_sides
  after_reads_simp
  try rfl
theorem E6_v1 : E6 e main_v1 = e main_v1 := by
  unfold_abbrev_sides
  after_reads_simp
  try rfl
theorem E6_v28 : E6 e main_v28 = e main_v28 := by
  unfold_abbrev_sides
  after_reads_simp
  try rfl
theorem E6_v45 : E6 e main_v45 = e main_v45 := by
  unfold_abbrev_sides
  after_reads_simp
  try rfl
theorem E6_v50 : E6 e main_v50 = extui 32 (cmpi .ne (e main_v45) (concatenate (Routing.shape1 49) 0
    [⟨Routing.shape1 1, broadcastInDim (Routing.shape1 1) ![] Tables.b1 (constantI Routing.shape0 32 4294967295#32)⟩,
     ⟨Routing.shape1 48, extractStridedSlice (Routing.shape1 48) ![0] (e main_v45) Tables.sl48⟩] Tables.cc)) Tables.h132 := by
  unfold_abbrev_sides
  after_reads_simp
  try rfl
theorem E6_v53 : E6 e main_v53 = extui 32 (cmpi .sle (e main_v13) (broadcastInDim (Routing.shape1 49) ![] Tables.b49 (e main_v19))) Tables.h132 := by
  unfold_abbrev_sides
  after_reads_simp
  try rfl

theorem V_v1 (c : Dev nD) : V m c main_v1 = Tables.starts (gs m c) := by
  rw [V_eq, E6_v1, E5_v1, E4_v1, E3_v1, E2_v1, E1_v1]
theorem V_v28 (c : Dev nD) : V m c main_v28 = Tables.group (gs m c) := by
  rw [V_eq, E6_v28, E5_v28, E4_v28, E3_v13, E3_v14, E3_v12, E2_v12, E1_v0, E1_v2, E1_arg1]
  rfl
theorem V_v45 (c : Dev nD) : V m c main_v45 = Tables.tile (gs m c) := by
  rw [V_eq, E6_v45, E5_v45, E4_v28, E4_v21, E4_v2, E4_v11, E4_v12, E3_v13, E3_v14, E3_v12, E3_v11, E3_v2, E2_v12, E2_v11, E2_v2, E1_v0, E1_v2, E1_arg1]
  rfl
theorem V_v50 (c : Dev nD) : V m c main_v50 = Tables.first (gs m c) := by
  have h := V_v45 m c
  rw [V_eq, E6_v45] at h
  rw [V_eq, E6_v50, h]
  rfl
theorem V_v53 (c : Dev nD) : V m c main_v53 = Tables.live (gs m c) := by
  rw [V_eq, E6_v53, E5_v13, E5_v19, E4_v13, E4_v19, E3_v13, E3_v12, E2_v12, E1_v0, E1_v2, E1_arg1]
  rfl
theorem V_v54 (c : Dev nD) : V m c main_v54 = shapeCast S16x1x2816 (m ((c : Thread nD τ).loc main_arg3)) shapeCasts_S16x2816_S16x1x2816 := by
  unfold_abbrev_sides
  after_reads_simp
  rfl
theorem V_arg0 (c : Dev nD) : V m c main_arg0 = m ((c : Thread nD τ).loc main_arg0) := by
  unfold_abbrev_sides
  after_reads_simp
theorem V_arg1 (c : Dev nD) : V m c main_arg1 = m ((c : Thread nD τ).loc main_arg1) := by
  unfold_abbrev_sides
  after_reads_simp
theorem V_arg2 (c : Dev nD) : V m c main_arg2 = m ((c : Thread nD τ).loc main_arg2) := by
  unfold_abbrev_sides
  after_reads_simp
theorem V_arg3 (c : Dev nD) : V m c main_arg3 = m ((c : Thread nD τ).loc main_arg3) := by
  unfold_abbrev_sides
  after_reads_simp

theorem fresh0 : (hostOps0 : List (HloOp τ sig (Elt F))).Forall fun op => op.fresh = ∅ := by simp only [List.Forall]; repeat' constructor
theorem fresh1 : (hostOps0_1 : List (HloOp τ sig (Elt F))).Forall fun op => op.fresh = ∅ := by simp only [List.Forall]; repeat' constructor
theorem fresh2 : (hostOps0_2 : List (HloOp τ sig (Elt F))).Forall fun op => op.fresh = ∅ := by simp only [List.Forall]; repeat' constructor
theorem fresh3 : (hostOps0_3 : List (HloOp τ sig (Elt F))).Forall fun op => op.fresh = ∅ := by simp only [List.Forall]; repeat' constructor
theorem fresh4 : (hostOps0_4 : List (HloOp τ sig (Elt F))).Forall fun op => op.fresh = ∅ := by simp only [List.Forall]; repeat' constructor
theorem fresh5 : (hostOps0_5 : List (HloOp τ sig (Elt F))).Forall fun op => op.fresh = ∅ := by simp only [List.Forall]; repeat' constructor
theorem fresh6 : (hostOps0_6 : List (HloOp τ sig (Elt F))).Forall fun op => op.fresh = ∅ := by simp only [List.Forall]; repeat' constructor
theorem fresh7 : (hostOps0_7 : List (HloOp τ sig (Elt F))).Forall fun op => op.fresh = ∅ := by simp only [List.Forall]; repeat' constructor
theorem fresh8 : (hostOps0_8 : List (HloOp τ sig (Elt F))).Forall fun op => op.fresh = ∅ := by simp only [List.Forall]; repeat' constructor
theorem fresh9 : (hostOps0_9 : List (HloOp τ sig (Elt F))).Forall fun op => op.fresh = ∅ := by simp only [List.Forall]; repeat' constructor
theorem fresh10 : (hostOps0_10 : List (HloOp τ sig (Elt F))).Forall fun op => op.fresh = ∅ := by simp only [List.Forall]; repeat' constructor

/-- The program up to the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main
    [hostOps0, hostOps0_1, hostOps0_2, hostOps0_3, hostOps0_4, hostOps0_5, hostOps0_6, hostOps0_7, hostOps0_8, hostOps0_9, hostOps0_10]
    (by simp only [List.Forall]
        exact ⟨hostOps0_sub, hostOps0_1_sub, hostOps0_2_sub, hostOps0_3_sub, hostOps0_4_sub, hostOps0_5_sub, hostOps0_6_sub, hostOps0_7_sub,
          hostOps0_8_sub, hostOps0_9_sub, hostOps0_10_sub⟩)
    (by simp only [List.Forall]; exact ⟨fresh0, fresh1, fresh2, fresh3, fresh4, fresh5, fresh6, fresh7, fresh8, fresh9, fresh10⟩) main_chain

end Cert.KernelIdeal.Run
-- ==== Proof.BodyI.lean ====
module

public import proofs.«01_k».proof.Proof.Body
public import proofs.«01_k».proof.Proof.HostI
public import proofs.«01_k».proof.Proof.Gen.KernelIdeal.Skeleton
public import Idealize.ShloMosaic.Lib.Tactic
public import Idealize.ShloMosaic.Lib.WordCmp
public import Idealize.ShloMosaic.Lib.Pipeline.ValueKit
public import Idealize.ShloMosaic.Lib.Tactic.Stretches

/-! One step of the kernel: what the body leaves in its scratch and its output block, from what it finds. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-word read. -/
abbrev w0 : S1.Idx := Shape.Idx.first (s := S1) (numel1_S1.symm ▸ Nat.one_pos)

/-- The word a table of 49 holds for the step. -/
def rd (T : Vec F S49 .i32) (i : grid0.Coords) : BitVec 32 :=
  View.ld (Val := Elt F) (e' := .i32) T (Rect.unit (s := S49) (k0_off1 i) S1.size (k0_off1_inb i)) w0

/-- The word the table of the experts' first rows holds for expert `g`. -/
def rdS (T : Vec F S16 .i32) (g : BitVec 32) (h : k0_chk1 g) : BitVec 32 :=
  View.ld (Val := Elt F) (e' := .i32) T (Rect.unit (s := S16) (k0_off3 g) S1.size (k0_off3_inb g h)) w0

/-- The first branch's condition, on the word it is read from. -/
def isFirst (w : BitVec 32) : Prop := Scalar.cmpi .ne (Scalar.extui (Scalar.cmpi .eq w 1#32) : BitVec 32) 0#32 = 1#1

instance (w : BitVec 32) : Decidable (isFirst w) := by unfold isFirst; infer_instance

/-- The codes after the step. -/
def nextQ (w : BitVec 32) (x : Vec F S512x1408 .bf16) (q : Vec F S512x1408 .fp8e4m3) : Vec F S512x1408 .fp8e4m3 :=
  if isFirst w then k0_pay1 (k0_pay7 x) (k0_pay8 (F := F)) else q

/-- The scales after the step. -/
def nextS (w : BitVec 32) (x : Vec F S512x1408 .bf16) (s : Vec F S512x128 .f32) : Vec F S512x128 .f32 :=
  if isFirst w then k0_pay2 (k0_pay6 x) else s

/-- The column of scales the product reads. -/
def scol (s : Vec F S512x128 .f32) : Vec F S512x1 .f32 :=
  View.ld (Val := Elt F) (e' := .f32) s (Rect.unit (s := S512x128) ![0, 0] S512x1.size inb_S512x128_S512x1_0_0)

/-- The output block after the step. -/
def nextO (live start tile : BitVec 32) (q : Vec F S512x1408 .fp8e4m3) (s : Vec F S512x128 .f32)
    (w : Vec F S1x1408x2816 .fp8e4m3) (ws : Vec F S1x1x2816 .f32) (o : Vec F S512x2816 .bf16) : Vec F S512x2816 .bf16 :=
  if k0_cond2 live = 1#1 then k0_pay3 (F := F) start tile q w (scol s) ws o else o

theorem read_full {s : Shape} {e : EltTy} {κ : Kind} {sp : Space} (v : View sig κ sp s e) (f : v.ty.Contents (Elt F)) (off : Fin s.rank → Nat)
    (inb : ∀ a, off a + s.size a ≤ s.size a) (w : s.Idx → Elt F e)
    (h : ∀ y, ∃ p ∈ [(⟨Rect.unit off s.size inb, w⟩ : View.Piece (Elt F) s e)], y ∈ p.1.set) (h0 : ∀ a, off a = 0) :
    v.read (Elt F) (v.writes (Elt F) f [(⟨Rect.unit off s.size inb, w⟩ : View.Piece (Elt F) s e)]) = w :=
  (View.read_writes_eq_canon v f _ h).trans (View.canon_unit_zero (funext h0) inb w)

omit [FloatOps F] in
theorem whole_o (f : S512x2816.Idx → Elt F .bf16) :
    View.ld (Val := Elt F) (e' := .bf16) f (Rect.unit (s := S512x2816) ![0, 0] S512x2816.size inb_S512x2816_S512x2816_0_0) = f :=
  View.ld_unit_zero (funext fun a => by fin_cases a <;> rfl) _ f
omit [FloatOps F] in
theorem whole_x (f : S512x1408.Idx → Elt F .bf16) :
    View.ld (Val := Elt F) (e' := .bf16) f (Rect.unit (s := S512x1408) ![0, 0] S512x1408.size inb_S512x1408_S512x1408_0_0) = f :=
  View.ld_unit_zero (funext fun a => by fin_cases a <;> rfl) _ f
omit [FloatOps F] in
theorem whole_q (f : S512x1408.Idx → Elt F .fp8e4m3) :
    View.ld (Val := Elt F) (e' := .fp8e4m3) f (Rect.unit (s := S512x1408) ![0, 0] S512x1408.size inb_S512x1408_S512x1408_0_0) = f :=
  View.ld_unit_zero (funext fun a => by fin_cases a <;> rfl) _ f
omit [FloatOps F] in
theorem whole_w (f : S1x1408x2816.Idx → Elt F .fp8e4m3) :
    View.ld (Val := Elt F) (e' := .fp8e4m3) f (Rect.unit (s := S1x1408x2816) ![0, 0, 0] S1x1408x2816.size inb_S1x1408x2816_S1x1408x2816_0_0_0) = f :=
  View.ld_unit_zero (funext fun a => by fin_cases a <;> rfl) _ f
omit [FloatOps F] in
theorem whole_ws (f : S1x1x2816.Idx → Elt F .f32) :
    View.ld (Val := Elt F) (e' := .f32) f (Rect.unit (s := S1x1x2816) ![0, 0, 0] S1x1x2816.size inb_S1x1x2816_S1x1x2816_0_0_0) = f :=
  View.ld_unit_zero (funext fun a => by fin_cases a <;> rfl) _ f

theorem col_after (v : View sig .tc .vmem S512x128 .f32) (w : Vec F S512x128 .f32) :
    v.readCov [(⟨Rect.unit (s := S512x128) ![0, 0] S512x128.size inb_S512x128_S512x128_0_0, w⟩ : View.Piece (Elt F) S512x128 .f32)]
      (Rect.unit (s := S512x128) ![0, 0] S512x1.size inb_S512x128_S512x1_0_0).toLoadRect = scol w := by
  rw [View.readCov_eq_canon', View.canon_unit_zero (funext fun a => by fin_cases a <;> rfl)]
  rfl

set_option maxHeartbeats 1000000 in
/-- The body on whole buffers. -/
theorem body_run (c : Dev nD) (E : Set ℕ) (i : grid0.Coords)
    (arg1 : Memref sig .tc .smem S49 .i32) (harg1 : arg1.IsWhole) (arg2 : Memref sig .tc .smem S49 .i32) (harg2 : arg2.IsWhole)
    (arg3 : Memref sig .tc .smem S16 .i32) (harg3 : arg3.IsWhole) (arg4 : Memref sig .tc .smem S49 .i32) (harg4 : arg4.IsWhole)
    (arg5 : Memref sig .tc .smem S49 .i32) (harg5 : arg5.IsWhole) (arg6 : Memref sig .tc .vmem S512x1408 .bf16) (harg6 : arg6.IsWhole)
    (arg7 : Memref sig .tc .vmem S1x1408x2816 .fp8e4m3) (harg7 : arg7.IsWhole) (arg8 : Memref sig .tc .vmem S1x1x2816 .f32) (harg8 : arg8.IsWhole)
    (arg9 : Memref sig .tc .vmem S512x2816 .bf16) (harg9 : arg9.IsWhole) (arg10 : Memref sig .tc .vmem S512x1408 .fp8e4m3) (harg10 : arg10.IsWhole)
    (arg11 : Memref sig .tc .vmem S512x128 .f32) (harg11 : arg11.IsWhole) (sh : PosShare TreeShare)
    (T1 T2 : Vec F S49 .i32) (T3 : Vec F S16 .i32) (T4 T5 : Vec F S49 .i32)
    (x : Vec F S512x1408 .bf16) (w : Vec F S1x1408x2816 .fp8e4m3) (ws : Vec F S1x1x2816 .f32) (o : Vec F S512x2816 .bf16)
    (q : Vec F S512x1408 .fp8e4m3) (s : Vec F S512x128 .f32) (hg : k0_chk1 (rd T2 i)) (K : PUnit → sProp 𝕄) :
    iprop(owns (c : Thread nD τ) arg1 sh T1 ∗ owns (c : Thread nD τ) arg2 sh T2 ∗ owns (c : Thread nD τ) arg3 sh T3
        ∗ owns (c : Thread nD τ) arg4 sh T4 ∗ owns (c : Thread nD τ) arg5 sh T5
        ∗ owns (c : Thread nD τ) arg6 fullShare x ∗ owns (c : Thread nD τ) arg7 fullShare w ∗ owns (c : Thread nD τ) arg8 fullShare ws
        ∗ owns (c : Thread nD τ) arg9 fullShare o ∗ owns (c : Thread nD τ) arg10 fullShare q ∗ owns (c : Thread nD τ) arg11 fullShare s
        ∗ (iprop(owns (c : Thread nD τ) arg1 sh T1 ∗ owns (c : Thread nD τ) arg2 sh T2 ∗ owns (c : Thread nD τ) arg3 sh T3
        ∗ owns (c : Thread nD τ) arg4 sh T4 ∗ owns (c : Thread nD τ) arg5 sh T5
        ∗ owns (c : Thread nD τ) arg6 fullShare x ∗ owns (c : Thread nD τ) arg7 fullShare w ∗ owns (c : Thread nD τ) arg8 fullShare ws
        ∗ owns (c : Thread nD τ) arg9 fullShare (nextO (rd T5 i) (rdS T3 (rd T2 i) hg) (rd T1 i) (nextQ (rd T4 i) x q) (nextS (rd T4 i) x s) w ws o)
        ∗ owns (c : Thread nD τ) arg10 fullShare (nextQ (rd T4 i) x q)
        ∗ owns (c : Thread nD τ) arg11 fullShare (nextS (rd T4 i) x s)) -∗ K ⟨⟩))
      ⊢ wp frame (wpE (defs₀ (F := F)) Variants.none c none) E
          (cc0_grouped_fp8 i arg1 harg1 arg2 harg2 arg3 harg3 arg4 harg4 arg5 harg5 arg6 harg6 arg7 harg7 arg8 harg8 arg9 harg9 arg10 harg10 arg11 harg11) K := by
  simp only [cc0_grouped_fp8_eq_skeleton]; unfold cc0_grouped_fp8_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf1 hf2 hf3 hf4 hf5 hf6 hf7 hf8 hf9 hf10 hf11
  have hg' : k0_chk1 (View.readAt (Elt F) arg2.view (Rect.unit (s := S49) (k0_off2 i) S1.size (k0_off2_inb i)).toLoadRect f2 w0) := hg
  by_cases hF : Scalar.cmpi .ne (Scalar.extui (Scalar.cmpi .eq (View.readAt (Elt F) arg4.view (Rect.unit (s := S49) (k0_off1 i) S1.size (k0_off1_inb i)).toLoadRect f4 w0 : BitVec 32) 1#32) : BitVec 32) 0#32 = 1#1
  · have hF' : isFirst (rd (View.read (Elt F) arg4.view f4) i) := hF
    by_cases hL : k0_cond2 (View.readAt (Elt F) arg5.view (Rect.unit (s := S49) (k0_off4 i) S1.size (k0_off4_inb i)).toLoadRect f5 w0) = 1#1
    · have hL' : k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists _; isplitr
        swap; · iexact H9
        ipureintro
        rw [nextO, if_pos hL', nextQ, if_pos hF', nextS, if_pos hF']
        sl_open_run
        refine (read_full _ _ _ _ _ (View.cover_of_tiled _ S512x2816.size (by rfl)) (by decide)).trans ?_
        rw [View.readCov_cons_toLoadRect, col_after]
        rw [View.readAt_eq_ld arg7.view, View.readAt_eq_ld arg8.view, View.readAt_eq_ld arg9.view, whole_w, whole_ws, whole_o]
        rw [View.readAt_eq_ld arg6.view, whole_x]
        rfl
      isplitl [H10]
      · iexists _; isplitr
        swap; · iexact H10
        ipureintro
        rw [nextQ, if_pos hF']
        sl_open_run
        refine (read_full _ _ _ _ _ (View.cover_of_tiled _ S512x1408.size (by rfl)) (by decide)).trans ?_
        rw [View.readAt_eq_ld arg6.view, whole_x]
      iexists _; isplitr
      swap; · iexact H11
      ipureintro
      rw [nextS, if_pos hF']
      sl_open_run
      refine (read_full _ _ _ _ _ (View.cover_of_tiled _ S512x128.size (by rfl)) (by decide)).trans ?_
      rw [View.readAt_eq_ld arg6.view, whole_x]
    · have hL' : ¬ k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr
        swap; · iexact H9
        ipureintro
        rw [nextO, if_neg hL']
      isplitl [H10]
      · iexists _; isplitr
        swap; · iexact H10
        ipureintro
        rw [nextQ, if_pos hF']
        sl_open_run
        refine (read_full _ _ _ _ _ (View.cover_of_tiled _ S512x1408.size (by rfl)) (by decide)).trans ?_
        rw [View.readAt_eq_ld arg6.view, whole_x]
      iexists _; isplitr
      swap; · iexact H11
      ipureintro
      rw [nextS, if_pos hF']
      sl_open_run
      refine (read_full _ _ _ _ _ (View.cover_of_tiled _ S512x128.size (by rfl)) (by decide)).trans ?_
      rw [View.readAt_eq_ld arg6.view, whole_x]
  · have hF' : ¬ isFirst (rd (View.read (Elt F) arg4.view f4) i) := hF
    by_cases hL : k0_cond2 (View.readAt (Elt F) arg5.view (Rect.unit (s := S49) (k0_off4 i) S1.size (k0_off4_inb i)).toLoadRect f5 w0) = 1#1
    · have hL' : k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists _; isplitr
        swap; · iexact H9
        ipureintro
        rw [nextO, if_pos hL', nextQ, if_neg hF', nextS, if_neg hF']
        sl_open_run
        refine (read_full _ _ _ _ _ (View.cover_of_tiled _ S512x2816.size (by rfl)) (by decide)).trans ?_
        rw [View.readAt_eq_ld arg10.view, View.readAt_eq_ld arg11.view, whole_q]
        rw [View.readAt_eq_ld arg7.view, View.readAt_eq_ld arg8.view, View.readAt_eq_ld arg9.view, whole_w, whole_ws, whole_o]
        rfl
      isplitl [H10]
      · iexists f10; isplitr
        swap; · iexact H10
        ipureintro
        rw [nextQ, if_neg hF']
      iexists f11; isplitr
      swap; · iexact H11
      ipureintro
      rw [nextS, if_neg hF']
    · have hL' : ¬ k0_cond2 (rd (View.read (Elt F) arg5.view f5) i) = 1#1 := hL
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr
        swap; · iexact H9
        ipureintro
        rw [nextO, if_neg hL']
      isplitl [H10]
      · iexists f10; isplitr
        swap; · iexact H10
        ipureintro
        rw [nextQ, if_neg hF']
      iexists f11; isplitr
      swap; · iexact H11
      ipureintro
      rw [nextS, if_neg hF']

end Cert.KernelIdeal.Run
-- ==== Proof.WordsI.lean ====
module

public import proofs.«01_k».proof.Proof.Words
public import proofs.«01_k».proof.Proof.BodyI

/-! The words of the prefetched tables at a step, and the launch's side condition. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ)

/-- The group sizes, as numbers. -/
abbrev gsz (c : Dev nD) : ℕ → ℕ := Tables.sz (gs m c)

/-- The tables as the launch finds them. -/
def pfT : pre0.Contents (Elt F) := fun k => V m 0 (pre0.ref k)

theorem dev_eq (c : Dev nD) : c = 0 := Subsingleton.elim c 0

theorem pfT_0 : pfT m 0 = Tables.tile (gs m 0) := V_v45 m 0
theorem pfT_1 : pfT m 1 = Tables.group (gs m 0) := V_v28 m 0
theorem pfT_2 : pfT m 2 = Tables.starts (gs m 0) := V_v1 m 0
theorem pfT_3 : pfT m 3 = Tables.first (gs m 0) := V_v50 m 0
theorem pfT_4 : pfT m 4 = Tables.live (gs m 0) := V_v53 m 0

theorem coord_lt (i : grid0.Coords) : (i 0).val < 49 := (i 0).isLt

theorem off1 (i : grid0.Coords) : k0_off1 i 0 = (i 0).val := by
  have h := coord_lt i
  show (Scalar.indexCast (BitVec.ofNat 32 (i 0).val) : Index).toNat = _
  simp only [Scalar.indexCast]
  rw [BitVec.toNat_ofNat]; omega

theorem off3 (g : ℕ) (hg : g < 16) : k0_off3 (BitVec.ofNat 32 g) 0 = g := by
  show (Scalar.indexCast (BitVec.ofNat 32 g) : Index).toNat = _
  simp only [Scalar.indexCast]
  rw [BitVec.toNat_ofNat]; omega

theorem chk1 (g : ℕ) (hg : g < 16) : k0_chk1 (BitVec.ofNat 32 g) := by
  intro a
  fin_cases a
  show k0_off3 (BitVec.ofNat 32 g) 0 + 1 ≤ 16
  rw [off3 g hg]; omega

theorem rd_eq (T : Vec F S49 .i32) (i : grid0.Coords) : rd T i = T (ValueIdx.ix1 (⟨(i 0).val, coord_lt i⟩ : Fin 49)) := by
  refine congrArg T (funext fun a => Fin.ext ?_)
  fin_cases a
  show k0_off1 i 0 + 1 * 0 = _
  rw [off1]; rfl

theorem rdS_eq (T : Vec F S16 .i32) (g : ℕ) (hg : g < 16) (h : k0_chk1 (BitVec.ofNat 32 g)) :
    rdS T (BitVec.ofNat 32 g) h = T (ValueIdx.ix1 (⟨g, hg⟩ : Fin 16)) := by
  refine congrArg T (funext fun a => Fin.ext ?_)
  fin_cases a
  show k0_off3 (BitVec.ofNat 32 g) 0 + 1 * 0 = _
  rw [off3 g hg]; rfl

section Hs
variable (hs : Sched.S (gsz m 0) 16 = 17408)
include hs

theorem at_tile (i : grid0.Coords) : pfT m 0 ((Rect.unit (s := S49) (k0_off1 i) S1.size (k0_off1_inb i)).emb (Shape.Idx.first (Nat.le_of_eq numel1_S1.symm)))
    = BitVec.ofNat 32 (Sched.tl (gsz m 0) (i 0).val) := by
  refine (congrFun (pfT_0 m) _).trans (Eq.trans ?_ (Tables.tile_ap (gs m 0) hs ⟨(i 0).val, coord_lt i⟩))
  refine congrArg (Tables.tile (gs m 0)) (funext fun a => Fin.ext ?_)
  fin_cases a
  show k0_off1 i 0 + 1 * 0 = _
  rw [off1]; rfl

theorem at_group (i : grid0.Coords) : pfT m 1 ((Rect.unit (s := S49) (k0_off1 i) S1.size (k0_off1_inb i)).emb (Shape.Idx.first (Nat.le_of_eq numel1_S1.symm)))
    = BitVec.ofNat 32 (Sched.gt (gsz m 0) (i 0).val) := by
  refine (congrFun (pfT_1 m) _).trans (Eq.trans ?_ (Tables.group_ap (gs m 0) hs ⟨(i 0).val, coord_lt i⟩))
  refine congrArg (Tables.group (gs m 0)) (funext fun a => Fin.ext ?_)
  fin_cases a
  show k0_off1 i 0 + 1 * 0 = _
  rw [off1]; rfl

theorem tr0 (i : grid0.Coords) : cc0_transform_0 k0_off1_inb numel1_S1 (pfT m) i = ![Sched.tl (gsz m 0) (i 0).val, 0] := by
  have ht := Sched.tl_lt (gsz m 0) hs (i 0).val
  refine (congrArg (fun b : BitVec 32 => ![b.toNat, (0#32).toNat]) (at_tile m hs i)).trans ?_
  have h : (BitVec.ofNat 32 (Sched.tl (gsz m 0) (i 0).val)).toNat = Sched.tl (gsz m 0) (i 0).val := by
    rw [BitVec.toNat_ofNat]; omega
  simp only [h, BitVec.ofNat_eq_ofNat, BitVec.toNat_zero]
theorem tr1 (i : grid0.Coords) : cc0_transform_1 k0_off1_inb numel1_S1 (pfT m) i = ![Sched.gt (gsz m 0) (i 0).val, 0, 0] := by
  have ht := Sched.gt_lt (gsz m 0) hs (i 0).val
  refine (congrArg (fun b : BitVec 32 => ![b.toNat, (0#32).toNat, (0#32).toNat]) (at_group m hs i)).trans ?_
  have h : (BitVec.ofNat 32 (Sched.gt (gsz m 0) (i 0).val)).toNat = Sched.gt (gsz m 0) (i 0).val := by
    rw [BitVec.toNat_ofNat]; omega
  simp only [h, BitVec.ofNat_eq_ofNat, BitVec.toNat_zero]
theorem tr2 (i : grid0.Coords) : cc0_transform_2 k0_off1_inb numel1_S1 (pfT m) i = ![Sched.gt (gsz m 0) (i 0).val, 0, 0] := tr1 m hs i
theorem tr3 (i : grid0.Coords) : cc0_transform_3 k0_off1_inb numel1_S1 (pfT m) i = ![Sched.tl (gsz m 0) (i 0).val, 0] := tr0 m hs i

theorem idle_eq (i : grid0.Coords) : idle0 (pfT m) 3 i = !decide ((i 0).val < Sched.T (gsz m 0)) := by
  show (!(k0_cond2 ((pfT m).atD 4 (k0_off4 i)) == 1#1)) = _
  have hw : (pfT m).atD 4 (k0_off4 i) = if (i 0).val < Sched.T (gsz m 0) then 1#32 else 0#32 := by
    unfold Pipeline.Prefetch.Contents.atD
    rw [dif_pos (fun a => by
      fin_cases a
      show k0_off1 i 0 + 1 ≤ 49
      rw [off1]; have := coord_lt i; omega), pfT_4]
    refine Eq.trans ?_ (Tables.live_ap _ hs ⟨(i 0).val, coord_lt i⟩)
    refine congrArg _ (funext fun a => Fin.ext ?_)
    fin_cases a
    exact off1 i
  rw [hw]
  by_cases h : (i 0).val < Sched.T (gsz m 0)
  · rw [if_pos h]; simp only [h, decide_true]; decide
  · rw [if_neg h]; simp only [h, decide_false]; decide

theorem ok : ok0 (pfT m) := by
  refine ⟨fun i => ⟨?_, .inr (Affine.block_words_dvd (by decide) (by decide))⟩, fun i => ⟨?_, .inr (Affine.block_words_dvd (by decide) (by decide))⟩, fun i => ⟨?_, .inl rfl⟩, fun i => ⟨?_, .inr (Affine.block_words_dvd (by decide) (by decide))⟩⟩
  · have ht := Sched.tl_lt (gsz m 0) hs (i 0).val
    rw [tr0 m hs i]; intro a
    fin_cases a
    · show (Sched.tl (gsz m 0) (i 0).val + 1) * 512 ≤ 17408; omega
    · show (0 + 1) * 1408 ≤ 1408; omega
  · have ht := Sched.gt_lt (gsz m 0) hs (i 0).val
    rw [tr1 m hs i]; intro a
    fin_cases a
    · show (Sched.gt (gsz m 0) (i 0).val + 1) * 1 ≤ 16; omega
    · show (0 + 1) * 1408 ≤ 1408; omega
    · show (0 + 1) * 2816 ≤ 2816; omega
  · have ht := Sched.gt_lt (gsz m 0) hs (i 0).val
    rw [tr2 m hs i]; intro a
    fin_cases a
    · show (Sched.gt (gsz m 0) (i 0).val + 1) * 1 ≤ 16; omega
    · show (0 + 1) * 1 ≤ 1; omega
    · show (0 + 1) * 2816 ≤ 2816; omega
  · have ht := Sched.tl_lt (gsz m 0) hs (i 0).val
    rw [tr3 m hs i]; intro a
    fin_cases a
    · show (Sched.tl (gsz m 0) (i 0).val + 1) * 512 ≤ 17408; omega
    · show (0 + 1) * 2816 ≤ 2816; omega

end Hs
end Cert.KernelIdeal.Run
-- ==== Proof.ValI.lean ====
module

public import proofs.«01_k».proof.Proof.Val
public import proofs.«01_k».proof.Proof.WordsI

/-! What the staged output block holds after each step, in closed form. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- The product of a block of codes with an expert's weights, scaled: what the step writes where its mask allows. -/
def prod (q : Vec F S512x1408 .fp8e4m3) (w : Vec F S1x1408x2816 .fp8e4m3) (col : Vec F S512x1 .f32) (ws : Vec F S1x1x2816 .f32) :
    FVec F S512x2816 .bf16 :=
  truncf .bf16 (mulf (mulf (matmul dot_S512x1408_S1408x2816_S512x2816_1_0_0_1_n_n none q (shapeCast S1408x2816 w shapeCasts_S1x1408x2816_S1408x2816)
      (constant S512x2816 .f32 0x00000000#32)) (broadcastTo S512x2816 col broadcasts_S512x1_S512x2816))
    (broadcastTo S512x2816 (shapeCast S1x2816 ws shapeCasts_S1x1x2816_S1x2816) broadcasts_S1x2816_S512x2816)) bitsLt_bf16_f32

/-- The mask word of a row. -/
theorem mask_word (a b r : ℕ) (ha : a ≤ 17408) (hb : b < 34) (hr : r < 512) :
    IntOp.cmpi .sge (BitVec.ofNat 32 r) (BitVec.ofNat 32 a - BitVec.ofNat 32 b * 512#32) = BitVec.ofBool (decide (a ≤ 512 * b + r)) := by
  show BitVec.ofBool (BitVec.sle _ _) = _
  congr 1
  have e : ∀ n : ℕ, n < 2 ^ 31 → (BitVec.ofNat 32 n).toInt = (n : ℤ) := fun n hn => by
    rw [BitVec.toInt_eq_toNat_of_lt (by rw [BitVec.toNat_ofNat]; omega), BitVec.toNat_ofNat]; omega
  rw [Bool.eq_iff_iff, BitVec.sle_iff_toInt_le, decide_eq_true_iff, BitVec.toInt_sub, BitVec.toInt_mul, e a (by omega), e b (by omega), e r (by omega), e 512 (by omega)]
  simp only [Int.bmod_def]
  omega

theorem pay3_ap (a b : ℕ) (ha : a ≤ 17408) (hb : b < 34) (q : Vec F S512x1408 .fp8e4m3) (w : Vec F S1x1408x2816 .fp8e4m3)
    (col : Vec F S512x1 .f32) (ws : Vec F S1x1x2816 .f32) (o : Vec F S512x2816 .bf16) (j : S512x2816.Idx) :
    k0_pay3 (F := F) (BitVec.ofNat 32 a) (BitVec.ofNat 32 b) q w col ws o j = if a ≤ 512 * b + (j 0).val then prod q w col ws j else o j := by
  have hj : (j 0).val < 512 := (j 0).isLt
  have e : ∀ c : BitVec 1, c = BitVec.ofBool (decide (a ≤ 512 * b + (j 0).val)) → ∀ p p' : F .bf16, p' = o j →
      Scalar.select c p p' = if a ≤ 512 * b + (j 0).val then p else o j := by
    intro c hc p p' hp
    rw [hc, hp]
    by_cases h : a ≤ 512 * b + (j 0).val <;> simp [h, Scalar.select]
  unfold k0_pay3
  dsimp only
  refine e _ ?_ _ _ ?_
  · refine Eq.trans ?_ (mask_word a b (j 0).val ha hb hj)
    rw [shapeCast_self]
    show IntOp.cmpi .sge _ _ = _
    congr 1
    exact (iota_single_apply _ _ _ _ _ _).trans rfl
  · rw [shapeCast_self]

variable (m : (ℓ : Loc nD τ sig) → Buf (Elt F) ℓ)

/-- A tile of the activations. -/
def xt (k : Fin 34) : Vec F S512x1408 .bf16 := fun j =>
  V m 0 main_arg0 (ValueIdx.ix2 (⟨512 * k.val + (j 0).val, by have := k.isLt; have h : (j 0).val < 512 := (j 0).isLt; omega⟩ : Fin 17408) (⟨(j 1).val, (j 1).isLt⟩ : Fin 1408))
/-- An expert's weights. -/
def wt (g : Fin 16) : Vec F S1x1408x2816 .fp8e4m3 := fun j =>
  V m 0 main_arg2 (ValueIdx.ix3 g (⟨(j 1).val, (j 1).isLt⟩ : Fin 1408) (⟨(j 2).val, (j 2).isLt⟩ : Fin 2816))
/-- An expert's column scales. -/
def wst (g : Fin 16) : Vec F S1x1x2816 .f32 := fun j =>
  V m 0 main_v54 (ValueIdx.ix3 g (0 : Fin 1) (⟨(j 2).val, (j 2).isLt⟩ : Fin 2816))

/-- A tile's codes and scales. -/
def Qk (k : Fin 34) : Vec F S512x1408 .fp8e4m3 := k0_pay1 (k0_pay7 (xt m k)) (k0_pay8 (F := F))
def Sk (k : Fin 34) : Vec F S512x128 .f32 := k0_pay2 (k0_pay6 (xt m k))

/-- A tile's rows against one expert. -/
def Vblk (k : Fin 34) (g : Fin 16) : Vec F S512x2816 .bf16 := prod (Qk m k) (wt m g) (scol (Sk m k)) (wst m g)

/-- The step's tile and expert. -/
def tF (n : ℕ) : Fin 34 := Fin.ofNat 34 (Sched.tl (gsz m 0) n)
def gF (n : ℕ) : Fin 16 := Fin.ofNat 16 (Sched.gt (gsz m 0) n)
/-- The expert whose product a row of the staged block holds after the step. -/
def eF (n r : ℕ) : Fin 16 := Fin.ofNat 16 (min (Sched.ex (gsz m 0) (512 * Sched.tl (gsz m 0) n + r)) (Sched.gt (gsz m 0) n))

/-- The staged block after the step. -/
def O (n : ℕ) : Vec F S512x2816 .bf16 := fun j => Vblk m (tF m n) (eF m n (j 0).val) j

theorem gt_mono {a b : ℕ} (h : a ≤ b) : Sched.gt (gsz m 0) a ≤ Sched.gt (gsz m 0) b := by
  unfold Sched.gt Sched.G Sched.cnt
  refine Finset.card_le_card fun g => ?_
  simp only [Finset.mem_filter]
  exact fun ⟨h1, h2⟩ => ⟨h1, by omega⟩

section Hs
variable (hs : Sched.S (gsz m 0) 16 = 17408)
include hs

theorem tF_val (n : ℕ) : (tF m n).val = Sched.tl (gsz m 0) n := Nat.mod_eq_of_lt (Sched.tl_lt _ hs n)
theorem gF_val (n : ℕ) : (gF m n).val = Sched.gt (gsz m 0) n := Nat.mod_eq_of_lt (Sched.gt_lt _ hs n)

theorem O_idle (n : ℕ) (h : Sched.T (gsz m 0) ≤ n) : O m n = O m (n - 1) := by
  obtain ⟨_, h1, h2⟩ := Sched.T_le_of_idle _ hs n h
  unfold O tF eF
  rw [h1, h2]

theorem O_live (n : ℕ) (h : n < Sched.T (gsz m 0)) (o : Vec F S512x2816 .bf16)
    (ho : (n = 0 ∨ Sched.tl (gsz m 0) n ≠ Sched.tl (gsz m 0) (n - 1)) ∨ o = O m (n - 1)) :
    k0_pay3 (F := F) (BitVec.ofNat 32 (Sched.S (gsz m 0) (Sched.gt (gsz m 0) n))) (BitVec.ofNat 32 (Sched.tl (gsz m 0) n))
      (Qk m (tF m n)) (wt m (gF m n)) (scol (Sk m (tF m n))) (wst m (gF m n)) o = O m n := by
  have hg := Sched.gt_lt _ hs n
  funext j
  rw [pay3_ap _ _ (Sched.S_le _ hs _ hg.le) (Sched.tl_lt _ hs n)]
  split_ifs with hm
  · have hle := Sched.le_ex (gsz m 0) _ _ hg.le hm
    unfold O Vblk
    have : eF m n (j 0).val = gF m n := by unfold eF gF; rw [min_eq_right hle]
    rw [this]
  · have hop : ¬ (n = 0 ∨ Sched.tl (gsz m 0) n ≠ Sched.tl (gsz m 0) (n - 1)) := fun hc => by
      have := (Sched.opens _ hs n hc).2; omega
    have hoo := ho.resolve_left hop
    obtain ⟨h0, h1⟩ := not_or.mp hop
    have h1' := not_not.mp h1
    have hst := Sched.stays _ hs n (by omega) h h1'
    have hg1 := Sched.gt_lt _ hs (n - 1)
    have hex := Sched.ex_le (gsz m 0) (512 * Sched.tl (gsz m 0) n + (j 0).val) (Sched.gt (gsz m 0) (n - 1)) hg1 (by omega)
    have hgm : Sched.gt (gsz m 0) (n - 1) ≤ Sched.gt (gsz m 0) n := gt_mono m (Nat.sub_le n 1)
    rw [hoo]
    unfold O
    have e1 : tF m (n - 1) = tF m n := by unfold tF; rw [h1']
    have e2 : eF m (n - 1) (j 0).val = eF m n (j 0).val := by
      unfold eF; rw [← h1', min_eq_left hex, min_eq_left (hex.trans hgm)]
    rw [e1, e2]

end Hs
end Cert.KernelIdeal.Run
-- ==== Proof.DataI.lean ====
module

public import proofs.«01_k».proof.Proof.Data
public import proofs.«01_k».proof.Proof.ValI
public import Idealize.ShloMosaic.Lib.Pipeline.TableIdle
public import Idealize.ShloMosaic.Lib.Pipeline.Kit

/-! The proof data of the launch: what every buffer holds at every step. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (hs : Sched.S (gsz m 0) 16 = 17408)

/-- The tables' contents, admissible. -/
def adm : (p : Fin 1) → (pcfgs (F := F) p).Adm := fun _ => ⟨pfT m, ok m hs⟩

/-- The pipeline at those tables. -/
abbrev cfgA : Pipeline.Cfg sig Λ₀ := Pipeline.pin pcfgs (adm m hs) 0

theorem lt49 (t : Fin (cfgA m hs).N) : t.val < 49 := Nat.lt_of_lt_of_eq t.isLt N_0

theorem coords_val (t : Fin (cfgA m hs).N) : (((cfgA m hs).grid.coords t) 0).val = t.val := by
  rw [Pipeline.Grid.coords_val (G := (cfgA m hs).grid) t 0 (S := 1) (B := 49) (show Pipeline.Grid.stride grid0 0 = 1 by decide) rfl]
  have := lt49 m hs t
  omega

/-- The invariant before step `n`: the scratch as the step before left it. -/
def Phi (c : Dev nD) (n : ℕ) : sProp 𝕄 :=
  iprop((match n with
    | 0 => iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
    | n + 1 => iprop(owns (c : Thread nD τ) (Memref.whole cc0_scratch0) fullShare (Qk m (tF m n)) ∗ owns (c : Thread nD τ) (Memref.whole cc0_scratch1) fullShare (Sk m (tF m n))))
    ∗ (∃ r, prngReg c r) ∗ Pipeline.ΦT pre0 (pfT m) c)

/-- What each window's staging buffer holds after step `n`. -/
def aft (n : ℕ) : (w : Fin 4) → (spec0 w).block.Idx → Elt F (spec0 w).elt
  | 0 => xt m (tF m n)
  | 1 => wt m (gF m n)
  | 2 => wst m (gF m n)
  | 3 => O m n
  | ⟨_ + 4, h⟩ => absurd h (Nat.not_lt.2 (Nat.le_add_left _ _))

/-- The proof data. -/
def dats (p : Fin 1) (c : Dev nD) : Dat τ (Elt F) Unit ℕ (UR sig nD τ) ℕ (Pipeline.pin pcfgs (adm m hs) p) c where
  A w := V m c (Pipeline.arrRef spec0 w)
  after w t := aft m t.val w
  Φ t := Phi m c t.val
  q _ := fullShare
  owed _ := 0

theorem A_eq (c : Dev nD) (w : Fin (cfgA m hs).W) : (dats m hs 0 c).A w = V m c (Pipeline.arrRef spec0 w) := by dsimp only [dats]
theorem after_eq (c : Dev nD) (w : Fin (cfgA m hs).W) (t : Fin (cfgA m hs).N) : (dats m hs 0 c).after w t = aft m t.val w := by dsimp only [dats]
theorem after_0 (c : Dev nD) (t : Fin (cfgA m hs).N) : (dats m hs 0 c).after 0 t = xt m (tF m t.val) := after_eq m hs c 0 t
theorem after_1 (c : Dev nD) (t : Fin (cfgA m hs).N) : (dats m hs 0 c).after 1 t = wt m (gF m t.val) := after_eq m hs c 1 t
theorem after_2 (c : Dev nD) (t : Fin (cfgA m hs).N) : (dats m hs 0 c).after 2 t = wst m (gF m t.val) := after_eq m hs c 2 t
theorem after_3 (c : Dev nD) (t : Fin (cfgA m hs).N) : (dats m hs 0 c).after 3 t = O m t.val := after_eq m hs c 3 t
theorem Phi_at (c : Dev nD) (t : Fin ((cfgA m hs).N + 1)) : (dats m hs 0 c).Φ t = Phi m c t.val := by dsimp only [dats]

theorem index_eq (w : Fin 4) (t : Fin (cfgA m hs).N) : ((cfgA m hs).win w).index t = ix0 (pfT m) w ((cfgA m hs).grid.coords t) := rfl
theorem index_0 (t : Fin (cfgA m hs).N) : ((cfgA m hs).win 0).index t = ![Sched.tl (gsz m 0) t.val, 0] := by
  refine (index_eq m hs 0 t).trans ((tr0 m hs ((cfgA m hs).grid.coords t)).trans ?_)
  rw [coords_val m hs t]
theorem index_1 (t : Fin (cfgA m hs).N) : ((cfgA m hs).win 1).index t = ![Sched.gt (gsz m 0) t.val, 0, 0] := by
  refine (index_eq m hs 1 t).trans ((tr1 m hs ((cfgA m hs).grid.coords t)).trans ?_)
  rw [coords_val m hs t]
theorem index_2 (t : Fin (cfgA m hs).N) : ((cfgA m hs).win 2).index t = ![Sched.gt (gsz m 0) t.val, 0, 0] := by
  refine (index_eq m hs 2 t).trans ((tr2 m hs ((cfgA m hs).grid.coords t)).trans ?_)
  rw [coords_val m hs t]
theorem index_3 (t : Fin (cfgA m hs).N) : ((cfgA m hs).win 3).index t = ![Sched.tl (gsz m 0) t.val, 0] := by
  refine (index_eq m hs 3 t).trans ((tr3 m hs ((cfgA m hs).grid.coords t)).trans ?_)
  rw [coords_val m hs t]

theorem read_slice (b : Ref sig .tc) (off size : Fin b.ty.shape.rank → ℕ) (inb) (X : b.ty.Contents (Elt F)) (j : (Rect.unit off size inb).shape.Idx)
    (k : b.ty.shape.Idx) (hk : ∀ a, off a + (j a).val = (k a).val) :
    ((View.whole b).slice (Rect.unit off size inb)).read (Elt F) X j = X k := by
  refine Eq.trans (b := X (((View.whole b).slice (Rect.unit off size inb)).emb j)) rfl ?_
  refine congrArg X (funext fun a => Fin.ext ?_)
  exact (ValueKit.view_emb_slice_whole_unit_val b off size inb j a).trans (hk a)

theorem forall3 {P : Fin 3 → Prop} (h : P 0 ∧ P 1 ∧ P 2) : ∀ a, P a :=
  Fin.forall_fin_succ.mpr ⟨h.1, Fin.forall_fin_two.mpr ⟨h.2.1, h.2.2⟩⟩

theorem blk_0 (c : Dev nD) (t : Fin (cfgA m hs).N) : (dats m hs 0 c).blockOf 0 t = aft m t.val 0 := by
  obtain rfl := dev_eq c
  rw [Pipeline.Dat.blockOf, A_eq]
  refine funext fun j : S512x1408.Idx => ?_
  refine read_slice main_arg0 (fun a => ((cfgA m hs).win 0).index t a * S512x1408.size a) S512x1408.size _ (V m 0 main_arg0) j _ (fun a => ?_)
  simp only [index_0 m hs t]
  have e := tF_val m hs t.val
  revert a
  refine Fin.forall_fin_two.mpr ⟨?_, ?_⟩
  · show Sched.tl (gsz m 0) t.val * 512 + (j 0).val = 512 * (tF m t.val).val + (j 0).val; omega
  · show 0 * 1408 + (j 1).val = (j 1).val; omega

theorem blk_1 (c : Dev nD) (t : Fin (cfgA m hs).N) : (dats m hs 0 c).blockOf 1 t = aft m t.val 1 := by
  obtain rfl := dev_eq c
  rw [Pipeline.Dat.blockOf, A_eq]
  refine funext fun j : S1x1408x2816.Idx => ?_
  refine read_slice main_arg2 (fun a => ((cfgA m hs).win 1).index t a * S1x1408x2816.size a) S1x1408x2816.size _ (V m 0 main_arg2) j _ (fun a => ?_)
  simp only [index_1 m hs t]
  have e := gF_val m hs t.val
  revert a
  refine forall3 ⟨?_, ?_, ?_⟩
  · have hj : (j 0).val < 1 := (j 0).isLt
    show Sched.gt (gsz m 0) t.val * 1 + (j 0).val = (gF m t.val).val; omega
  · show 0 * 1408 + (j 1).val = (j 1).val; omega
  · show 0 * 2816 + (j 2).val = (j 2).val; omega

theorem blk_2 (c : Dev nD) (t : Fin (cfgA m hs).N) : (dats m hs 0 c).blockOf 2 t = aft m t.val 2 := by
  obtain rfl := dev_eq c
  rw [Pipeline.Dat.blockOf, A_eq]
  refine funext fun j : S1x1x2816.Idx => ?_
  refine read_slice main_v54 (fun a => ((cfgA m hs).win 2).index t a * S1x1x2816.size a) S1x1x2816.size _ (V m 0 main_v54) j _ (fun a => ?_)
  simp only [index_2 m hs t]
  have e := gF_val m hs t.val
  revert a
  refine forall3 ⟨?_, ?_, ?_⟩
  · have hj : (j 0).val < 1 := (j 0).isLt
    show Sched.gt (gsz m 0) t.val * 1 + (j 0).val = (gF m t.val).val; omega
  · have hj : (j 1).val < 1 := (j 1).isLt
    show 0 * 1 + (j 1).val = 0; omega
  · show 0 * 2816 + (j 2).val = (j 2).val; omega

theorem before_0 (c : Dev nD) (t : Fin (cfgA m hs).N) (d) : (dats m hs 0 c).before 0 t d = aft m t.val 0 :=
  ((dats m hs 0 c).before_in_eq_fetched 0 rfl (fun _ => rfl) (fun _ _ _ => rfl) (fun t => by rw [blk_0, after_eq]; rfl) t d).trans
    (by unfold Dat.fetched; rw [blk_0]; rfl)
theorem before_1 (c : Dev nD) (t : Fin (cfgA m hs).N) (d) : (dats m hs 0 c).before 1 t d = aft m t.val 1 :=
  ((dats m hs 0 c).before_in_eq_fetched 1 rfl (fun _ => rfl) (fun _ _ _ => rfl) (fun t => by rw [blk_1, after_eq]; rfl) t d).trans
    (by unfold Dat.fetched; rw [blk_1]; rfl)
theorem before_2 (c : Dev nD) (t : Fin (cfgA m hs).N) (d) : (dats m hs 0 c).before 2 t d = aft m t.val 2 :=
  ((dats m hs 0 c).before_in_eq_fetched 2 rfl (fun _ => rfl) (fun _ _ _ => rfl) (fun t => by rw [blk_2, after_eq]; rfl) t d).trans
    (by unfold Dat.fetched; rw [blk_2]; rfl)

theorem idle_3 (t : Fin (cfgA m hs).N) : (cfgA m hs).idle 3 ((cfgA m hs).grid.coords t) = !decide (t.val < Sched.T (gsz m 0)) :=
  (idle_eq m hs ((cfgA m hs).grid.coords t)).trans (by rw [coords_val m hs t])

/-- The steps that write the staged block back. -/
theorem flush_3 (t : Fin (cfgA m hs).N) :
    ((cfgA m hs).win 3).flush t = decide (t.val + 1 = 49 ∨ Sched.tl (gsz m 0) (t.val + 1) ≠ Sched.tl (gsz m 0) t.val) := by
  have ht := lt49 m hs t
  have hN : Pipeline.Grid.N (cfgA m hs).grid = 49 := N_0
  have ho : ((cfgA m hs).win 3).isOut = true := rfl
  unfold Pipeline.Window.flush
  rw [ho, Bool.true_and, Bool.eq_iff_iff, Bool.or_eq_true, decide_eq_true_iff, decide_eq_true_iff, decide_eq_true_iff]
  have key : ∀ h : t.val + 1 < (cfgA m hs).N, ((cfgA m hs).win 3).index ⟨t.val + 1, h⟩ ≠ ((cfgA m hs).win 3).index t ↔ Sched.tl (gsz m 0) (t.val + 1) ≠ Sched.tl (gsz m 0) t.val := by
    intro h
    rw [index_3 m hs, index_3 m hs]
    refine not_congr ⟨fun e => congrFun e 0, fun e => ?_⟩
    show ![Sched.tl (gsz m 0) (t.val + 1), 0] = _
    rw [e]
  constructor
  · rintro (h | ⟨h, h'⟩)
    · exact .inl (by omega)
    · exact .inr ((key h).mp h')
  · rintro (h | h)
    · exact .inl (by omega)
    · by_cases h' : t.val + 1 = 49
      · exact .inl (by omega)
      · exact .inr ⟨Nat.lt_of_lt_of_eq (by omega : t.val + 1 < 49) N_0.symm, (key _).mpr h⟩

theorem fresh_3 : ∀ n, n ≤ (cfgA m hs).N → n < 49 → (cfgA m hs).fresh 3 n = decide (n = 0 ∨ Sched.tl (gsz m 0) n ≠ Sched.tl (gsz m 0) (n - 1))
  | 0, _, _ => by rw [Pipeline.Cfg.fresh_zero]; simp
  | n + 1, h, h49 => by
    rw [Pipeline.Cfg.fresh_succ _ 3 n h, flush_3, idle_3, fresh_3 n (by omega) (by omega)]
    have h1 : n + 1 ≠ 49 := by omega
    rw [Bool.eq_iff_iff]
    simp only [Bool.or_eq_true, decide_eq_true_iff, Bool.and_eq_true, Bool.not_eq_true', decide_eq_false_iff_not, Nat.add_sub_cancel, h1, false_or, Nat.succ_ne_zero, not_lt]
    constructor
    · rintro (h | ⟨h, h'⟩)
      · exact h
      · have := Sched.T_le_of_idle _ hs n h
        omega
    · exact fun h => .inl h

theorem before_3 (c : Dev nD) (t : Fin (cfgA m hs).N) (d) : (dats m hs 0 c).before 3 t d
    = if (cfgA m hs).fresh 3 t.val then d else aft m (t.val - 1) 3 :=
  ((dats m hs 0 c).before_out_traj 3 rfl (fun _ _ => rfl) (fun t h0 hi _ => by
    rw [after_eq, after_eq]
    rw [idle_3] at hi
    exact O_idle m hs t.val (by simpa using hi)) t.val t rfl d).trans (by rw [after_eq])

end Cert.KernelIdeal.Run
-- ==== Proof.RunI.lean ====
module

public import proofs.«01_k».proof.Proof.Run
public import proofs.«01_k».proof.Proof.DataI

/-! The body's obligation at every step, the launch and the frame. -/

@[expose] public section

set_option maxRecDepth 16384
set_option backward.isDefEq.respectTransparency.types false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tables as the body holds them. -/
theorem phiT_eq (c : Dev nD) : (Pipeline.ΦT pre0 (pfT m) c : sProp 𝕄)
    = iprop(owns (c : Thread nD τ) (Memref.whole main_v45) fullShare.right (pfT m 0) ∗ owns (c : Thread nD τ) (Memref.whole main_v28) fullShare.right (pfT m 1)
      ∗ owns (c : Thread nD τ) (Memref.whole main_v1) fullShare.right (pfT m 2) ∗ owns (c : Thread nD τ) (Memref.whole main_v50) fullShare.right (pfT m 3)
      ∗ owns (c : Thread nD τ) (Memref.whole main_v53) fullShare.right (pfT m 4)) := by
  have h := bigSep_univ_eq_bigSepL [(0 : Fin 5), (1 : Fin 5), (2 : Fin 5), (3 : Fin 5), (4 : Fin 5)] (by decide) (by decide)
    (fun k : Fin 5 => (iprop(((c.tc : Thread nD τ).loc (pre0.ref k)) ↦{fullShare.right} pfT m k) : sProp 𝕄))
  rw [owns_whole, owns_whole, owns_whole, owns_whole, owns_whole]
  exact h

/-- What a step finds in the scratch. -/
theorem phi_open (c : Dev nD) (n : ℕ) : Phi m c n ⊢ iprop(∃ q s, ⌜n = 0 ∨ (q = Qk m (tF m (n - 1)) ∧ s = Sk m (tF m (n - 1)))⌝
    ∗ owns (c : Thread nD τ) (Memref.whole cc0_scratch0) fullShare q ∗ owns (c : Thread nD τ) (Memref.whole cc0_scratch1) fullShare s
    ∗ (∃ r, prngReg c r) ∗ Pipeline.ΦT pre0 (pfT m) c) := by
  cases n with
  | zero =>
    unfold Phi
    iintro ⟨⟨⟨%q, Hq⟩, ⟨%s, Hs⟩⟩, Hr, Ht⟩
    iexists q, s
    isplitr; · ipureintro; exact .inl rfl
    isplitl [Hq]; · rw [owns_whole]; iexact Hq
    isplitl [Hs]; · rw [owns_whole]; iexact Hs
    isplitl [Hr] <;> iassumption
  | succ n =>
    unfold Phi
    iintro ⟨⟨Hq, Hs⟩, Hr, Ht⟩
    iexists _, _
    isplitr; · ipureintro; exact .inr ⟨rfl, rfl⟩
    isplitl [Hq]; · iexact Hq
    isplitl [Hs]; · iexact Hs
    isplitl [Hr] <;> iassumption

section Words
variable (hs : Sched.S (gsz m 0) 16 = 17408)
include hs

theorem w_tile (t : Fin (cfgA m hs).N) : rd (F := F) (pfT m 0) (grid0.coords t) = BitVec.ofNat 32 (Sched.tl (gsz m 0) t.val) := by
  have h := coords_val m hs t
  rw [rd_eq, pfT_0]
  exact (Tables.tile_ap _ hs _).trans (by rw [show (grid0.coords t 0).val = t.val from h])
theorem w_group (t : Fin (cfgA m hs).N) : rd (F := F) (pfT m 1) (grid0.coords t) = BitVec.ofNat 32 (Sched.gt (gsz m 0) t.val) := by
  have h := coords_val m hs t
  rw [rd_eq, pfT_1]
  exact (Tables.group_ap _ hs _).trans (by rw [show (grid0.coords t 0).val = t.val from h])
theorem w_start (w : BitVec 32) (g : ℕ) (hg : g < 16) (hw : w = BitVec.ofNat 32 g) (h) : rdS (F := F) (pfT m 2) w h = BitVec.ofNat 32 (Sched.S (gsz m 0) g) := by
  subst hw
  rw [rdS_eq _ g hg, pfT_2]
  exact Tables.starts_ap _ hs _
theorem w_first (t : Fin (cfgA m hs).N) : isFirst (rd (F := F) (pfT m 3) (grid0.coords t)) ↔ (t.val = 0 ∨ Sched.tl (gsz m 0) t.val ≠ Sched.tl (gsz m 0) (t.val - 1)) := by
  have h := coords_val m hs t
  rw [rd_eq, pfT_3]
  have e := (Tables.first_ap (gs m 0) hs ⟨(grid0.coords t 0).val, coord_lt _⟩)
  rw [e]
  simp only [show (grid0.coords t 0).val = t.val from h]
  by_cases hc : t.val = 0 ∨ Sched.tl (gsz m 0) t.val ≠ Sched.tl (gsz m 0) (t.val - 1)
  · rw [if_pos hc]; exact iff_of_true (by decide) hc
  · rw [if_neg hc]; exact iff_of_false (by decide) hc
theorem w_live (t : Fin (cfgA m hs).N) : k0_cond2 (rd (F := F) (pfT m 4) (grid0.coords t)) = 1#1 ↔ t.val < Sched.T (gsz m 0) := by
  have h := coords_val m hs t
  rw [rd_eq, pfT_4]
  have e := (Tables.live_ap (gs m 0) hs ⟨(grid0.coords t 0).val, coord_lt _⟩)
  rw [e]
  simp only [show (grid0.coords t 0).val = t.val from h]
  by_cases hc : t.val < Sched.T (gsz m 0)
  · rw [if_pos hc]; exact iff_of_true (by decide) hc
  · rw [if_neg hc]; exact iff_of_false (by decide) hc

theorem step_Q (t : Fin (cfgA m hs).N) (q : Vec F S512x1408 .fp8e4m3) (h : t.val = 0 ∨ q = Qk m (tF m (t.val - 1))) :
    nextQ (rd (F := F) (pfT m 3) (grid0.coords t)) (xt m (tF m t.val)) q = Qk m (tF m t.val) := by
  unfold nextQ
  split_ifs with hc
  · rfl
  · rw [w_first m hs t] at hc
    obtain ⟨h0, h1⟩ := not_or.mp hc
    rw [h.resolve_left h0]
    unfold tF
    rw [not_not.mp h1]
theorem step_S (t : Fin (cfgA m hs).N) (q : Vec F S512x128 .f32) (h : t.val = 0 ∨ q = Sk m (tF m (t.val - 1))) :
    nextS (rd (F := F) (pfT m 3) (grid0.coords t)) (xt m (tF m t.val)) q = Sk m (tF m t.val) := by
  unfold nextS
  split_ifs with hc
  · rfl
  · rw [w_first m hs t] at hc
    obtain ⟨h0, h1⟩ := not_or.mp hc
    rw [h.resolve_left h0]
    unfold tF
    rw [not_not.mp h1]

theorem step_O (c : Dev nD) (t : Fin (cfgA m hs).N) (d) (hg) :
    nextO (rd (F := F) (pfT m 4) (grid0.coords t)) (rdS (F := F) (pfT m 2) (rd (F := F) (pfT m 1) (grid0.coords t)) hg) (rd (F := F) (pfT m 0) (grid0.coords t))
      (Qk m (tF m t.val)) (Sk m (tF m t.val)) (wt m (gF m t.val)) (wst m (gF m t.val)) ((dats m hs 0 c).before 3 t d)
    = if t.val < Sched.T (gsz m 0) then O m t.val else (dats m hs 0 c).before 3 t d := by
  unfold nextO
  have hl := w_live m hs t
  have h49 := lt49 m hs t
  by_cases h : t.val < Sched.T (gsz m 0)
  · rw [if_pos (hl.mpr h), if_pos h, w_start m hs _ _ (Sched.gt_lt _ hs t.val) (w_group m hs t), w_tile m hs t]
    refine O_live m hs t.val h _ ?_
    rw [before_3, fresh_3 m hs t.val t.isLt.le h49]
    by_cases hf : t.val = 0 ∨ Sched.tl (gsz m 0) t.val ≠ Sched.tl (gsz m 0) (t.val - 1)
    · exact .inl hf
    · refine .inr ?_
      rw [decide_eq_false hf]; rfl
  · rw [if_neg (fun h' => h (hl.mp h')), if_neg h]

end Words

variable (hs : Sched.S (gsz m 0) 16 = 17408)

/-- The body at a step. -/
abbrev bodyAt (t : Fin (cfgA m hs).N) : Prog (TpuEff nD τ sig (Elt F) Λ₀ .tc) PUnit :=
  cc0_grouped_fp8 (grid0.coords t) (Memref.whole main_v45) (Memref.isWhole_whole _) (Memref.whole main_v28) (Memref.isWhole_whole _) (Memref.whole main_v1) (Memref.isWhole_whole _) (Memref.whole main_v50) (Memref.isWhole_whole _) (Memref.whole main_v53) (Memref.isWhole_whole _)
    (spec0_0.stage ((cfgA m hs).slots t 0)) (hstage0_0 (((cfgA m hs).slots t 0).cast nbuf0_0)) (spec0_1.stage ((cfgA m hs).slots t 1)) (hstage0_1 (((cfgA m hs).slots t 1).cast nbuf0_1))
    (spec0_2.stage ((cfgA m hs).slots t 2)) (hstage0_2 (((cfgA m hs).slots t 2).cast nbuf0_2)) (spec0_3.stage ((cfgA m hs).slots t 3)) (hstage0_3 (((cfgA m hs).slots t 3).cast nbuf0_3))
    (Memref.whole cc0_scratch0) (Memref.isWhole_whole _) (Memref.whole cc0_scratch1) (Memref.isWhole_whole _)

theorem defs₀_row (t : Fin (cfgA m hs).N) :
    defs₀ (F := F) .tc (cfgA m hs).body ((cfgA m hs).bodyArgs t ((cfgA m hs).slots t)) = bodyAt m hs t := by
  unfold defs₀; rw [Defs.onTc_tc]

def bodyPre (c : Dev nD) (t : Fin (cfgA m hs).N) : sProp 𝕄 :=
  iprop((dats m hs 0 c).Φ t.castSucc ∗ (dats m hs 0 c).owesAt () t.castSucc
    ∗ (∃ d, owns (c : Thread nD τ) (spec0_0.stage ((cfgA m hs).slots t 0)) fullShare ((dats m hs 0 c).before 0 t d))
    ∗ (∃ d, owns (c : Thread nD τ) (spec0_1.stage ((cfgA m hs).slots t 1)) fullShare ((dats m hs 0 c).before 1 t d))
    ∗ (∃ d, owns (c : Thread nD τ) (spec0_2.stage ((cfgA m hs).slots t 2)) fullShare ((dats m hs 0 c).before 2 t d))
    ∗ (∃ d, owns (c : Thread nD τ) (spec0_3.stage ((cfgA m hs).slots t 3)) fullShare ((dats m hs 0 c).before 3 t d)))

def post3 (c : Dev nD) (t : Fin (cfgA m hs).N) : sProp 𝕄 :=
  match (cfgA m hs).idle 3 ((cfgA m hs).grid.coords t) with
  | true =>
    match ((cfgA m hs).win 3).flush t with
    | false => iprop(∃ d, owns (c : Thread nD τ) (spec0_3.stage ((cfgA m hs).slots t 3)) fullShare ((dats m hs 0 c).before 3 t d))
    | true => owns (c : Thread nD τ) (spec0_3.stage ((cfgA m hs).slots t 3)) fullShare ((dats m hs 0 c).after 3 t)
  | false => owns (c : Thread nD τ) (spec0_3.stage ((cfgA m hs).slots t 3)) fullShare ((dats m hs 0 c).after 3 t)

def bodyPost (c : Dev nD) (t : Fin (cfgA m hs).N) : sProp 𝕄 :=
  iprop((dats m hs 0 c).Φ t.succ ∗ (dats m hs 0 c).owesAt () t.succ
    ∗ owns (c : Thread nD τ) (spec0_0.stage ((cfgA m hs).slots t 0)) fullShare ((dats m hs 0 c).after 0 t)
    ∗ owns (c : Thread nD τ) (spec0_1.stage ((cfgA m hs).slots t 1)) fullShare ((dats m hs 0 c).after 1 t)
    ∗ owns (c : Thread nD τ) (spec0_2.stage ((cfgA m hs).slots t 2)) fullShare ((dats m hs 0 c).after 2 t)
    ∗ post3 m hs c t)

theorem post3_of (c : Dev nD) (t : Fin (cfgA m hs).N) (d) :
    owns (c : Thread nD τ) (spec0_3.stage ((cfgA m hs).slots t 3)) fullShare (if t.val < Sched.T (gsz m 0) then O m t.val else (dats m hs 0 c).before 3 t d)
      ⊢ post3 m hs c t := by
  have h49 := lt49 m hs t
  unfold post3
  by_cases h : t.val < Sched.T (gsz m 0)
  · have hi : (cfgA m hs).idle 3 ((cfgA m hs).grid.coords t) = false := by rw [idle_3, decide_eq_true h]; rfl
    rw [hi, if_pos h, after_3]
  · have hi : (cfgA m hs).idle 3 ((cfgA m hs).grid.coords t) = true := by rw [idle_3, decide_eq_false h]; rfl
    rw [hi, if_neg h]
    have hI := Sched.T_le_of_idle _ hs t.val (by omega)
    cases hf : ((cfgA m hs).win 3).flush t
    · iintro H; iexists d; iexact H
    · rw [before_3, fresh_3 m hs t.val t.isLt.le h49, decide_eq_false (by omega), after_3, O_idle m hs t.val (by omega)]
      exact .rfl

set_option maxHeartbeats 1000000 in
theorem sound_body (c : Dev nD) (t : Fin (cfgA m hs).N) :
    bodyPre m hs c t ⊢ wp frame (wpE (defs₀ (F := F)) Variants.none c none) Set.univ (bodyAt m hs t) (fun _ => bodyPost m hs c t) := by
  have hg : k0_chk1 (rd (F := F) (pfT m 1) (grid0.coords t)) := by
    rw [w_group m hs t]; exact chk1 _ (Sched.gt_lt _ hs _)
  unfold bodyPre bodyPost bodyAt
  simp only [before_0, before_1, before_2, after_0, after_1, after_2]
  rw [Phi_at, Phi_at, Fin.val_castSucc, Fin.val_succ, show (dats m hs 0 c).owesAt () t.succ = (dats m hs 0 c).owesAt () t.castSucc from rfl]
  iintro ⟨HΦ, Ho, ⟨%d0, H0⟩, ⟨%d1, H1⟩, ⟨%d2, H2⟩, ⟨%d3, H3⟩⟩
  ihave HΦ' := (phi_open m c t.val) $$ HΦ
  icases HΦ' with ⟨%q, %s, %hq, Hq, Hs, Hr, Ht⟩
  ihave Ht' := (Entails.of_eq (phiT_eq m c)) $$ Ht
  icases Ht' with ⟨T1, T2, T3, T4, T5⟩
  iapply (body_run c Set.univ (grid0.coords t) _ _ _ _ _ _ _ _ _ _ _ _ _ _ _ _ _ _ _ _ _ _ fullShare.right (pfT m 0) (pfT m 1) (pfT m 2) (pfT m 3) (pfT m 4)
    (xt m (tF m t.val)) (wt m (gF m t.val)) (wst m (gF m t.val)) ((dats m hs 0 c).before 3 t d3) q s hg _)
  isplitl [T1]; · iexact T1
  isplitl [T2]; · iexact T2
  isplitl [T3]; · iexact T3
  isplitl [T4]; · iexact T4
  isplitl [T5]; · iexact T5
  isplitl [H0]; · iexact H0
  isplitl [H1]; · iexact H1
  isplitl [H2]; · iexact H2
  isplitl [H3]; · iexact H3
  isplitl [Hq]; · iexact Hq
  isplitl [Hs]; · iexact Hs
  have hQ := step_Q m hs t q (hq.imp_right And.left)
  have hS := step_S m hs t s (hq.imp_right And.right)
  have hO := step_O m hs c t d3 hg
  rw [hQ, hS, hO]
  iintro ⟨T1, T2, T3, T4, T5, H0, H1, H2, H3, Hq, Hs⟩
  isplitl [Hq Hs Hr T1 T2 T3 T4 T5]
  · unfold Phi
    isplitl [Hq Hs]
    · isplitl [Hq]; · iexact Hq
      iexact Hs
    isplitl [Hr]; · iexact Hr
    rw [phiT_eq]
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  iapply (post3_of m hs c t d3)
  iexact H3

theorem body_obligation (c : Dev nD) : BodyObligation (dats (F := F) m hs 0 c) defs₀ Variants.none () Set.univ := fun t => by
  rw [bigSep_W0, bigSep_W0, defs₀_row]
  exact triple_restated (sound_body m hs c t) rfl .rfl fun _ => .rfl

theorem hin (c : Dev nD) : iprop(Pipeline.ΦA spec0 c ∗ Pipeline.ΦT pre0 (pfT m) c) ⊢ (dats m hs 0 c).Φ 0 := by
  rw [Phi_at]
  show _ ⊢ Phi m c 0
  unfold Phi
  unfold Pipeline.ΦA
  iintro ⟨⟨Hs, Hr⟩, Ht⟩
  isplitl [Hs]
  · ihave H := (Entails.of_eq (scopedRest0_eq (Val := Elt F) c)) $$ Hs
    iexact H
  isplitl [Hr]; · iexact Hr
  iexact Ht

theorem hout (c : Dev nD) : (dats m hs 0 c).Φ (Fin.last (cfgA m hs).N) ⊢ Pipeline.ΦA spec0 c := by
  rw [Phi_at]
  unfold Pipeline.ΦA
  iintro H
  ihave H' := (phi_open m c _) $$ H
  icases H' with ⟨%q, %s, %hq, Hq, Hs, Hr, Ht⟩
  isplitl [Hq Hs]
  · iapply (Entails.of_eq (scopedRest0_eq (Val := Elt F) c).symm)
    isplitl [Hq]
    · iexists q; rw [← owns_whole]; iexact Hq
    · iexists s; rw [← owns_whole]; iexact Hs
  iexact Hr

variable (ρ : Dev nD → PrngReg)

set_option maxHeartbeats 800000 in
theorem run_main : θ_run (defs (F := F)) (onTc (τ := τ) (main (F := F))) ⟨m, fun _ => 0, ρ⟩
    (fun r => Pipeline.FramePost (Pipeline.pin pcfgs (adm m hs)) (dats m hs) 0 (V m) r ∧ r.2.sem = fun _ => 0) :=
  Pipeline.θ_run_frameP_track (Q' := _) pcfgs (adm m hs) (dats m hs) (0 : Fin 1) launch0 defs₀ Variants.none m ρ main
    (hbody := fun c => (body_obligation m hs c).loose) (hshare := fun c => (dats m hs 0 c).share_full fun _ => rfl) (howed := fun _ _ => rfl)
    (V := V m) (hmain := hmain m Variants.none) (hA := fun _ _ => rfl) (hpf := fun c k => by rw [dev_eq c]; rfl)
    (hin := hin m hs) (hout := hout m hs) (hQ' := fun _ h => h)

theorem rest_1 : ∀ w : Fin 4, (spec0 w).arr.view.ref ≠ main_arg1 := by decide
theorem rest_3 : ∀ w : Fin 4, (spec0 w).arr.view.ref ≠ main_arg3 := by decide

theorem end_in0 {r} (h : Pipeline.FramePost (Pipeline.pin pcfgs (adm m hs)) (dats m hs) 0 (V m) r) (c : Dev nD) :
    r.2.mem ((c.tc : Thread nD τ).loc main_arg0) = m ((c.tc : Thread nD τ).loc main_arg0) :=
  ((h c).1 0).trans (((dats m hs 0 c).arrAt_in 0 rfl _).trans ((A_eq m hs c 0).trans (V_arg0 m c)))
theorem end_in1 {r} (h : Pipeline.FramePost (Pipeline.pin pcfgs (adm m hs)) (dats m hs) 0 (V m) r) (c : Dev nD) :
    r.2.mem ((c.tc : Thread nD τ).loc main_arg1) = m ((c.tc : Thread nD τ).loc main_arg1) :=
  ((h c).2 main_arg1 (Pipeline.mem_restRefs_of main_arg1 (by decide) (rest_1))).trans (V_arg1 m c)
theorem end_in2 {r} (h : Pipeline.FramePost (Pipeline.pin pcfgs (adm m hs)) (dats m hs) 0 (V m) r) (c : Dev nD) :
    r.2.mem ((c.tc : Thread nD τ).loc main_arg2) = m ((c.tc : Thread nD τ).loc main_arg2) :=
  ((h c).1 1).trans (((dats m hs 0 c).arrAt_in 1 rfl _).trans ((A_eq m hs c 1).trans (V_arg2 m c)))
theorem end_in3 {r} (h : Pipeline.FramePost (Pipeline.pin pcfgs (adm m hs)) (dats m hs) 0 (V m) r) (c : Dev nD) :
    r.2.mem ((c.tc : Thread nD τ).loc main_arg3) = m ((c.tc : Thread nD τ).loc main_arg3) :=
  ((h c).2 main_arg3 (Pipeline.mem_restRefs_of main_arg3 (by decide) (rest_3))).trans (V_arg3 m c)

include hs in
/-- From any memory whose group sizes fill the rows: the run ends with the arguments unchanged and every counter at zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r (h : _ ∧ _) => ⟨fun c => ⟨end_in0 m hs h.1 c, end_in1 m hs h.1 c, end_in2 m hs h.1 c, end_in3 m hs h.1 c⟩, h.2⟩) (run_main m hs ρ)

end Cert.KernelIdeal.Run
-- ==== Proof.ArrI.lean ====
module

public import proofs.«01_k».proof.Proof.RunI
public import Idealize.ShloMosaic.Lib.Pipeline.ValueKit

/-! The array the launch leaves: every row holds its own expert's product. -/

@[expose] public section

set_option maxRecDepth 16384
set_option backward.isDefEq.respectTransparency.types false

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ)
variable (hs : Sched.S (gsz m 0) 16 = 17408)

/-- The row's tile, its place there and its expert. -/
def rowT (R : ℕ) : Fin 34 := Fin.ofNat 34 (R / 512)
def rowE (R : ℕ) : Fin 16 := Fin.ofNat 16 (Sched.ex (gsz m 0) R)
/-- The whole result. -/
def res : Vec F S17408x2816 .bf16 := fun i =>
  Vblk m (rowT (i 0).val) (rowE m (i 0).val) (ix2 (⟨(i 0).val % 512, Nat.mod_lt _ (by decide)⟩ : Fin 512) (⟨(i 1).val, (i 1).isLt⟩ : Fin 2816))

theorem O_res (n : ℕ) (hn : n < 49) (hf : n + 1 = 49 ∨ Sched.tl (gsz m 0) (n + 1) ≠ Sched.tl (gsz m 0) n) (y : S512x2816.Idx) (i : S17408x2816.Idx)
    (h0 : (i 0).val = Sched.tl (gsz m 0) n * 512 + (y 0).val) (h1 : (i 1).val = (y 1).val) (hs : Sched.S (gsz m 0) 16 = 17408) : O m n y = res m i := by
  have hy : (y 0).val < 512 := (y 0).isLt
  have hT := Sched.T_le (gsz m 0) hs
  have hc := Sched.closes (gsz m 0) hs n (hf.symm.imp id (fun h => by omega))
  have hg := Sched.gt_lt _ hs n
  have hl := Sched.ex_le (gsz m 0) (512 * Sched.tl (gsz m 0) n + (y 0).val) _ hg (by omega)
  unfold O res
  have e1 : tF m n = rowT (i 0).val := by
    unfold tF rowT
    have : (i 0).val / 512 = Sched.tl (gsz m 0) n := by omega
    rw [this]
  have e2 : eF m n (y 0).val = rowE m (i 0).val := by
    unfold eF rowE
    rw [min_eq_left hl, h0, Nat.mul_comm]
  rw [e1, e2]
  refine congrArg (Vblk m _ _) (funext fun a => ?_)
  revert a
  refine Fin.forall_fin_two.mpr ⟨Fin.ext ?_, Fin.ext ?_⟩
  · show (y 0).val = (i 0).val % 512; omega
  · exact h1.symm

theorem inb_3 (t : Fin (cfgA m hs).N) : ∀ a : Fin 2, ((cfgA m hs).win 3).index t a * S512x2816.size a + S512x2816.size a ≤ S17408x2816.size a := by
  rw [index_3]
  have := Sched.tl_lt _ hs t.val
  refine Fin.forall_fin_two.mpr ⟨?_, ?_⟩
  · show Sched.tl (gsz m 0) t.val * 512 + 512 ≤ 17408; omega
  · show 0 * 2816 + 2816 ≤ 2816; omega

theorem emb_3 (t : Fin (cfgA m hs).N) (y : S512x2816.Idx) (a : Fin 2) :
    ((((cfgA m hs).win 3).blk t).view.emb y a).val = ((cfgA m hs).win 3).index t a * S512x2816.size a + (y a).val :=
  ValueKit.view_emb_slice_whole_unit_val main_v55 (fun a => ((cfgA m hs).win 3).index t a * S512x2816.size a) S512x2816.size (inb_3 m hs t) y a

theorem arr_res (c : Dev nD) : (dats m hs 0 c).arrAt 3 (cfgA m hs).N = res m := by
  refine (dats m hs 0 c).arrAt_eq_of_emb 3 (res m) (fun t hf (y : S512x2816.Idx) => ?_) (fun (i : S17408x2816.Idx) => ?_)
  · rw [flush_3 m hs t, decide_eq_true_iff] at hf
    have e := index_3 m hs t
    refine (congrFun (after_3 m hs c t) y).trans (O_res m t.val (lt49 m hs t) hf y ((((cfgA m hs).win 3).blk t).view.emb y : S17408x2816.Idx) ?_ ?_ hs)
    · refine (emb_3 m hs t y 0).trans ?_
      rw [e]; rfl
    · refine (emb_3 m hs t y 1).trans ?_
      rw [e]; show 0 * 2816 + (y 1).val = _; omega
  · have h0 : (i 0).val < 17408 := (i 0).isLt
    have h1 : (i 1).val < 2816 := (i 1).isLt
    obtain ⟨t, ht, hk, hf⟩ := Sched.covers (gsz m 0) hs ((i 0).val / 512) (by omega)
    refine ⟨⟨t, Nat.lt_of_lt_of_eq ht N_0.symm⟩, ?_, ?_⟩
    · rw [flush_3 m hs, decide_eq_true_iff]; exact hf
    · refine (((cfgA m hs).win 3).emb_mem_blk_iff _ i).mpr fun a => ?_
      rw [index_3 m hs]
      revert a
      refine Fin.forall_fin_two.mpr ⟨?_, ?_⟩
      · show Sched.tl (gsz m 0) t * 512 ≤ (i 0).val ∧ (i 0).val < Sched.tl (gsz m 0) t * 512 + 512; omega
      · show 0 * 2816 ≤ (i 1).val ∧ (i 1).val < 0 * 2816 + 2816; omega

include hs in
/-- The run ends with the result array holding `res` and the arguments unchanged. -/
theorem value (ρ : Dev nD → PrngReg) : θ_run (defs (F := F)) (onTc (τ := τ) (main (F := F))) ⟨m, fun _ => 0, ρ⟩ (fun r => ∀ c : Dev nD,
      r.2.mem ((c.tc : Thread nD τ).loc main_v55) = res m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r (h : _ ∧ _) c => ⟨((h.1 c).1 3).trans (arr_res m hs c), end_in0 m hs h.1 c, end_in1 m hs h.1 c, end_in2 m hs h.1 c, end_in3 m hs h.1 c⟩)
    (run_main m hs ρ)

end Cert.KernelIdeal.Run
-- ==== Proof.BlockI.lean ====
module

public import proofs.«01_k».proof.Proof.ValI
public import proofs.«01_k».proof.Proof.Scale
public import Idealize.ShloMosaic.Lib.Pointwise
public import Idealize.ShloMosaic.Lib.IndicatorCount

/-! The kernel's block over the extended reals: its scale serves every row, so the product of the codes, scaled back, is the
    product of the rows. -/

@[expose] public section

set_option maxRecDepth 16384

noncomputable section

namespace Scale

open Idealize.ShloMosaic

/-- The exponent word the kernel takes from a count. -/
def eword (n : BitVec 32) : BitVec 32 :=
  Scalar.select (IntOp.ori (IntOp.cmpi .eq n 0#32) (IntOp.cmpi .eq n 255#32)) (0#32) (IntOp.subi n 126#32)

theorem shl (x : BitVec 32) : IntOp.shli ArithUnit.vector x 23#32 = x <<< 23 := by
  unfold IntOp.shli
  rw [if_pos (by decide)]
  rfl

theorem thr (k : Fin 255) : Ideal.ofBits .f32 (IntOp.shli ArithUnit.vector (IntOp.addi (BitVec.ofNat 32 k.val) 1#32) 23#32) = th (k.val + 1) := by
  have e : IntOp.addi (BitVec.ofNat 32 k.val) 1#32 = BitVec.ofNat 32 (k.val + 1) := (BitVec.ofNat_add _ _).symm
  rw [shl, e]
  unfold th
  have hk := k.isLt
  split_ifs with h
  · exact ofBits_pow _ (by omega) h
  · have e : k.val + 1 = 255 := by omega
    rw [e]
    exact ofBits_top

theorem word_scale : ∀ n : Fin 256, (n.val ≤ 246 ∨ n.val = 255) → IntOp.shli ArithUnit.vector (IntOp.addi (eword (BitVec.ofNat 32 n.val)) 127#32) 23#32
    = BitVec.ofNat 32 (if n.val = 0 ∨ n.val = 255 then 127 else n.val + 1) <<< 23 := by decide +kernel
theorem word_inv : ∀ n : Fin 256, (n.val ≤ 246 ∨ n.val = 255) → IntOp.shli ArithUnit.vector (IntOp.subi (127#32) (eword (BitVec.ofNat 32 n.val))) 23#32
    = BitVec.ofNat 32 (if n.val = 0 ∨ n.val = 255 then 127 else 253 - n.val) <<< 23 := by decide +kernel

theorem scale_of (n : ℕ) (h : n ≤ 246 ∨ n = 255) :
    Ideal.ofBits .f32 (IntOp.shli ArithUnit.vector (IntOp.addi (eword (BitVec.ofNat 32 n)) 127#32) 23#32) = (((2 : ℝ) ^ E n : ℝ) : EReal) := by
  rw [word_scale ⟨n, by omega⟩ h]
  show Ideal.ofBits .f32 (BitVec.ofNat 32 (if n = 0 ∨ n = 255 then 127 else n + 1) <<< 23) = _
  rw [ofBits_pow _ (by split_ifs <;> omega) (by split_ifs <;> omega)]
  congr 2
  unfold E
  split_ifs <;> push_cast <;> omega

theorem inv_of (n : ℕ) (h : n ≤ 246 ∨ n = 255) :
    Ideal.ofBits .f32 (IntOp.shli ArithUnit.vector (IntOp.subi (127#32) (eword (BitVec.ofNat 32 n))) 23#32) = ((((2 : ℝ) ^ E n : ℝ) : EReal))⁻¹ := by
  rw [word_inv ⟨n, by omega⟩ h]
  show Ideal.ofBits .f32 (BitVec.ofNat 32 (if n = 0 ∨ n = 255 then 127 else 253 - n) <<< 23) = _
  rw [ofBits_pow _ (by split_ifs <;> omega) (by split_ifs <;> omega), ← EReal.coe_inv, ← zpow_neg]
  congr 2
  unfold E
  split_ifs <;> omega

theorem count (y : EReal) : Finset.fold IntOp.addi (0#32) (fun k : Fin 255 =>
      BitVec.setWidth 32 (BitVec.ofBool (decide (Ideal.ofBits .f32 (IntOp.shli ArithUnit.vector (IntOp.addi (BitVec.ofNat 32 k.val) 1#32) 23#32) ≤ y)))) Finset.univ
    = BitVec.ofNat 32 (N y) := by
  rw [IndicatorCount.fold_addi_setWidth_eq_card]
  unfold N
  congr 2
  refine Finset.filter_congr fun k _ => ?_
  rw [thr]
  by_cases h : th (k.val + 1) ≤ y <;> simp [h]

end Scale

namespace Cert.KernelIdeal.Run

open Cert.KernelIdeal Cert.KernelIdeal.Gen
open Idealize.ShloMosaic Idealize.ShloMosaic.TcCoe Idealize.ShloMosaic.Tactic
open Scale (amax kscale)

variable [Facts]

theorem pay5_at (x : FVec Ideal S512x1408 .bf16) (r : Fin 512) :
    k0_pay5 (F := Ideal) x (ix2 r 0) = Scale.eword (BitVec.ofNat 32 (Scale.N (amax (fun k : Fin 1408 => (x (ix2 r k) : EReal)) * (Scale.c : EReal)))) := by
  unfold k0_pay5 k0_pay4
  pointwise
  rw [Scale.count, Scale.ofBits_c, Scale.ofBits_bot]
  rfl

theorem pay6_at (x : FVec Ideal S512x1408 .bf16) (r : Fin 512) (h : amax (fun k : Fin 1408 => (x (ix2 r k) : EReal)) ≤ (Scale.B : EReal) ∨ amax (fun k : Fin 1408 => (x (ix2 r k) : EReal)) = ⊤) :
    k0_pay6 (F := Ideal) x (ix2 r 0) = (kscale (amax (fun k : Fin 1408 => (x (ix2 r k) : EReal))) : EReal) := by
  unfold k0_pay6
  pointwise
  rw [pay5_at]
  exact Scale.scale_of _ (Scale.N_ok h)

theorem code_at (x : FVec Ideal S512x1408 .bf16) (r : Fin 512) (k : Fin 1408) (h : amax (fun k : Fin 1408 => (x (ix2 r k) : EReal)) ≤ (Scale.B : EReal) ∨ amax (fun k : Fin 1408 => (x (ix2 r k) : EReal)) = ⊤) :
    k0_pay1 (k0_pay7 (F := Ideal) x) k0_pay8 (ix2 r k) =
      min ((448 : ℝ) : EReal) (max ((-448 : ℝ) : EReal) (x (ix2 r k) * (kscale (amax (fun k : Fin 1408 => (x (ix2 r k) : EReal))) : EReal)⁻¹)) := by
  unfold k0_pay1 k0_pay7 k0_pay8 k0_pay4
  pointwise
  rw [pay5_at, Scale.inv_of _ (Scale.N_ok h), Scale.ofBits_448, Scale.ofBits_n448]
  rfl

/-- The scaled product of a block of codes is the product of the block's rows (`Scale.prod`). -/
theorem prod_at (x : FVec Ideal S512x1408 .bf16) (w : Vec Ideal S1x1408x2816 .fp8e4m3) (ws : Vec Ideal S1x1x2816 .f32) (r : Fin 512) (j : Fin 2816)
    (h : ∀ k : Fin 1408, Scale.Fit (x (ix2 r k))) :
    prod (F := Ideal) (k0_pay1 (k0_pay7 (F := Ideal) x) k0_pay8) w (scol (F := Ideal) (k0_pay2 (F := Ideal) (k0_pay6 (F := Ideal) x))) ws (ix2 r j)
      = (Scale.prod (fun k : Fin 1408 => (x (ix2 r k) : EReal)) (fun k => w (ix3 0 k j)) * ws (ix3 0 0 j) : EReal) := by
  have ha := Scale.amax_fit (fun k : Fin 1408 => (x (ix2 r k) : EReal)) h
  unfold prod scol k0_pay2
  pointwise
  rw [pay6_at x r ha]
  refine congrArg (· * ws (ix3 0 0 j)) ?_
  exact Scale.row_prod (fun k : Fin 1408 => (x (ix2 r k) : EReal)) (fun k => w (ix3 0 k j)) (fun k => k0_pay1 (k0_pay7 (F := Ideal) x) k0_pay8 (ix2 r k))
    (Scale.kscale_serves ha) (fun k => code_at x r k ha)

end Cert.KernelIdeal.Run
-- ==== Proof.Product.lean ====
module

public import proofs.«01_k».proof.Proof.Tables
public import proofs.«01_k».proof.Proof.Scale

/-! The result both programs end with: every row's product with its own expert's weights, times that expert's column scales. -/

@[expose] public section

noncomputable section

namespace Product

open Idealize.ShloMosaic

/-- A row's expert. -/
def ex (z : IVec (Routing.shape1 16) 32) (R : ℕ) : Fin 16 := Fin.ofNat 16 (Sched.ex (Tables.sz z) R)

/-- Every entry is infinite or within the format's finite range. -/
def Fits (x : Vec Ideal ⟨2, ![17408, 1408]⟩ .bf16) : Prop := ∀ i, Scale.Fit (x i)

/-- The rows' products. -/
def out (x : Vec Ideal ⟨2, ![17408, 1408]⟩ .bf16) (z : IVec (Routing.shape1 16) 32) (w : Vec Ideal ⟨3, ![16, 1408, 2816]⟩ .fp8e4m3)
    (ws : Vec Ideal ⟨2, ![16, 2816]⟩ .f32) : Vec Ideal ⟨2, ![17408, 2816]⟩ .bf16 := fun i =>
  (Scale.prod (fun k : Fin 1408 => (x (ix2 (⟨(i 0).val, (i 0).isLt⟩ : Fin 17408) k) : EReal)) (fun k => w (ix3 (ex z (i 0).val) k (⟨(i 1).val, (i 1).isLt⟩ : Fin 2816)))
    * ws (ix2 (ex z (i 0).val) (⟨(i 1).val, (i 1).isLt⟩ : Fin 2816)) : EReal)

theorem out_at (x : Vec Ideal ⟨2, ![17408, 1408]⟩ .bf16) (z : IVec (Routing.shape1 16) 32) (w : Vec Ideal ⟨3, ![16, 1408, 2816]⟩ .fp8e4m3)
    (ws : Vec Ideal ⟨2, ![16, 2816]⟩ .f32) (R : Fin 17408) (j : Fin 2816) : out x z w ws (ix2 R j) =
      (Scale.prod (fun k : Fin 1408 => (x (ix2 R k) : EReal)) (fun k => w (ix3 (ex z R.val) k j)) * ws (ix2 (ex z R.val) j) : EReal) := rfl

end Product
-- ==== Proof.ResI.lean ====
module

public import proofs.«01_k».proof.Proof.ArrI
public import proofs.«01_k».proof.Proof.BlockI
public import proofs.«01_k».proof.Proof.Product

/-! The kernel's result over the extended reals: every row's product. -/

@[expose] public section

set_option maxRecDepth 16384
set_option backward.isDefEq.respectTransparency.types false

noncomputable section

namespace Cert.KernelIdeal.Run

open Cert.KernelIdeal Cert.KernelIdeal.Gen
open Idealize.ShloMosaic Idealize.ShloMosaic.TcCoe Idealize.ShloMosaic.Tactic

theorem scale_cast (x : Vec Ideal S16x2816 .f32) (g : Fin 16) (j : Fin 2816) :
    (shapeCast S16x1x2816 x shapeCasts_S16x2816_S16x1x2816 : Vec Ideal S16x1x2816 .f32) (ix3 g 0 j) = x (ix2 g j) := by
  pointwise

variable (m : (ℓ : Loc nD τ sig) → Buf (Elt Ideal) ℓ)

/-- A row of a tile is a row of the array. -/
theorem xt_at (R : Fin 17408) (k : Fin 1408) :
    xt (F := Ideal) m (rowT R.val) (ix2 (⟨R.val % 512, Nat.mod_lt _ (by decide)⟩ : Fin 512) k) = (m (((0 : Dev nD) : Thread nD τ).loc main_arg0) : Vec Ideal S17408x1408 .bf16) (ix2 R k) := by
  unfold xt
  rw [V_arg0]
  refine congrArg (m (((0 : Dev nD) : Thread nD τ).loc main_arg0) : Vec Ideal S17408x1408 .bf16) (funext fun a => ?_)
  revert a
  refine Fin.forall_fin_two.mpr ⟨Fin.ext ?_, Fin.ext ?_⟩
  · show 512 * (R.val / 512 % 34) + R.val % 512 = R.val
    have := R.isLt
    omega
  · rfl

theorem wt_at (g : Fin 16) (k : Fin 1408) (j : Fin 2816) :
    wt (F := Ideal) m g (ix3 0 k j) = (m (((0 : Dev nD) : Thread nD τ).loc main_arg2) : Vec Ideal S16x1408x2816 .fp8e4m3) (ix3 g k j) := by
  unfold wt
  rw [V_arg2]
  rfl

theorem wst_at (g : Fin 16) (j : Fin 2816) :
    wst (F := Ideal) m g (ix3 0 0 j) = (m (((0 : Dev nD) : Thread nD τ).loc main_arg3) : Vec Ideal S16x2816 .f32) (ix2 g j) := by
  unfold wst
  rw [V_v54]
  exact scale_cast _ g j

/-- The array the launch leaves holds the rows' products. -/
theorem res_eq (h : Product.Fits (m (((0 : Dev nD) : Thread nD τ).loc main_arg0))) :
    res (F := Ideal) m = Product.out (m (((0 : Dev nD) : Thread nD τ).loc main_arg0)) (gs m 0) (m (((0 : Dev nD) : Thread nD τ).loc main_arg2)) (m (((0 : Dev nD) : Thread nD τ).loc main_arg3)) := by
  funext (i : S17408x2816.Idx)
  obtain ⟨R, j, rfl⟩ : ∃ (R : Fin 17408) (j : Fin 2816), i = ix2 R j := ⟨i 0, i 1, (ix2_eta i).symm⟩
  rw [Product.out_at]
  have e := prod_at (xt (F := Ideal) m (rowT R.val)) (wt (F := Ideal) m (rowE m R.val)) (wst (F := Ideal) m (rowE m R.val))
    (⟨R.val % 512, Nat.mod_lt _ (by decide)⟩ : Fin 512) j (fun k => by rw [xt_at]; exact h _)
  refine (show res (F := Ideal) m (ix2 R j) = _ from e).trans ?_
  simp only [xt_at, wt_at, wst_at]
  rfl

end Cert.KernelIdeal.Run
-- ==== Proof.RefChain.lean ====
module

public import proofs.«01_k».proof.Proof.Gen.ReferenceIdeal.Frame
public import proofs.«01_k».proof.Proof.Scale
public import Idealize.ShloMosaic.Lib.Pointwise
public import Idealize.ShloMosaic.Lib.Pipeline.ValueKit

/-! The reference's result at a row, over the extended reals. -/

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic

variable {F : FTy → Type} [FloatOps F]

theorem p8 : @k0_pay8 F _ = @k0_pay6 F _ := rfl
theorem p10 : @k0_pay10 F _ = @k0_pay6 F _ := rfl
theorem p12 : @k0_pay12 F _ = @k0_pay6 F _ := rfl
theorem p14 : @k0_pay14 F _ = @k0_pay6 F _ := rfl
theorem p16 : @k0_pay16 F _ = @k0_pay6 F _ := rfl
theorem p18 : @k0_pay18 F _ = @k0_pay6 F _ := rfl
theorem p9 : @k0_pay9 F _ = @k0_pay7 F _ := rfl
theorem p11 : @k0_pay11 F _ = @k0_pay7 F _ := rfl
theorem p13 : @k0_pay13 F _ = @k0_pay7 F _ := rfl
theorem p15 : @k0_pay15 F _ = @k0_pay7 F _ := rfl
theorem p17 : @k0_pay17 F _ = @k0_pay7 F _ := rfl
theorem p19 : @k0_pay19 F _ = @k0_pay7 F _ := rfl

/-- One expert's choice at a row. -/
def sel (io : BitVec 32) (ge : BitVec 1) (en : BitVec 32) (p o : EReal) : EReal := Scalar.select (IntOp.andi ge (IntOp.cmpi .slt io en)) p o

theorem pay6_at (s : FVec Ideal S17408x1 .f32) (q : FVec Ideal S17408x1408 .fp8e4m3) (io : IVec S17408x1 32) (o a : FVec Ideal S17408x2816 .f32)
    (st en : Vec Ideal S1x1 .i32) (ws : Vec Ideal S1x2816 .f32) (w : Vec Ideal S1x1408x2816 .fp8e4m3) (st' en' : Vec Ideal S1x1 .i32) (ws' : Vec Ideal S1x2816 .f32)
    (R : Fin 17408) (j : Fin 2816) :
    k0_pay6 (F := Ideal) s q io o a st en ws w st' en' ws' (ix2 R j) =
      sel (io (ix2 R 0)) (IntOp.cmpi .sge (io (ix2 R 0)) (st' (ix2 0 0))) (en' (ix2 0 0)) ((∑ k : Fin 1408, (q (ix2 R k) : EReal) * w (ix3 0 k j)) * s (ix2 R 0) * ws' (ix2 0 j))
        (sel (io (ix2 R 0)) (IntOp.cmpi .sge (io (ix2 R 0)) (st (ix2 0 0))) (en (ix2 0 0)) (a (ix2 R j) * s (ix2 R 0) * ws (ix2 0 j)) (o (ix2 R j))) := by
  unfold k0_pay6
  pointwise
  rfl

theorem pay7_at (q : FVec Ideal S17408x1408 .fp8e4m3) (w : Vec Ideal S1x1408x2816 .fp8e4m3) (R : Fin 17408) (j : Fin 2816) :
    k0_pay7 (F := Ideal) q w (ix2 R j) = (∑ k : Fin 1408, (q (ix2 R k) : EReal) * w (ix3 0 k j) : EReal) := by
  unfold k0_pay7
  pointwise

end Cert.ReferenceIdeal.Val
-- ==== Proof.RefScale.lean ====
module

public import proofs.«01_k».proof.Proof.Gen.ReferenceIdeal.Frame
public import proofs.«01_k».proof.Proof.Scale
public import Idealize.ShloMosaic.Lib.Pointwise

/-! The reference's scale and codes over the extended reals. -/

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Scale (amax rscale)

theorem int_of : ∀ k : Fin 384, (IntOp.subi (BitVec.ofNat 32 k.val) 256#32).toInt = (k.val : ℤ) - 256 := by decide +kernel

theorem exp2_of (k : Fin 384) : (FloatOps.exp2 (F := Ideal) (φ := .f32) (FloatOps.sitofp .f32 (IntOp.subi (BitVec.ofNat 32 k.val) 256#32)) : EReal)
    = (((2 : ℝ) ^ ((k.val : ℤ) - 256) : ℝ) : EReal) := by
  have e : (FloatOps.sitofp (F := Ideal) .f32 (IntOp.subi (BitVec.ofNat 32 k.val) 256#32) : EReal) = ((((k.val : ℤ) - 256 : ℤ) : ℝ) : EReal) := by
    rw [← int_of k]; rfl
  rw [e]
  refine congrArg (fun r : ℝ => (r : EReal)) ?_
  exact Real.rpow_intCast 2 _

/-- The codes of the rows at given scales. -/
def codes (v0 : Vec Ideal S17408x1408 .bf16) (s : FVec Ideal S17408x1 .f32) : FVec Ideal S17408x1408 .fp8e4m3 :=
  truncf .fp8e4m3 (minimumf (broadcast S17408x1408 (Scalar.ofBits .f32 0x43E00000#32)) (maximumf (broadcast S17408x1408 (Scalar.ofBits .f32 0xC3E00000#32))
    (divf (extf .f32 v0 bitsLt_bf16_f32) (broadcastTo S17408x1408 s broadcasts_S17408x1_S17408x1408)))) bitsLt_fp8e4m3_f32

theorem codes_at (v0 : Vec Ideal S17408x1408 .bf16) (s : FVec Ideal S17408x1 .f32) (R : Fin 17408) (k : Fin 1408) : codes v0 s (ix2 R k) =
    min (Ideal.ofBits .f32 0x43E00000#32) (max (Ideal.ofBits .f32 0xC3E00000#32) (Ideal.div (v0 (ix2 R k)) (s (ix2 R 0)))) := by
  unfold codes
  pointwise

theorem pay3_codes (x : Vec Ideal S17408x1408 .bf16) : k0_pay3 (F := Ideal) x = codes x (k0_pay2 (F := Ideal) x) := rfl

/-- The rows' greatest magnitudes. -/
def amaxv (v0 : Vec Ideal S17408x1408 .bf16) : FVec Ideal S17408x1 .f32 :=
  shapeCast S17408x1 (multiReduction .maximumf [1] S17408 (absf (extf .f32 v0 bitsLt_bf16_f32)) 0xFF800000#32 reduces_S17408x1408_S17408 (.inl rfl) rfl) shapeCasts_S17408_S17408x1

theorem amaxv_at (v0 : Vec Ideal S17408x1408 .bf16) (R : Fin 17408) : amaxv v0 (ix2 R 0) = amax (fun k : Fin 1408 => (v0 (ix2 R k) : EReal)) := by
  unfold amaxv
  pointwise
  rw [Scale.ofBits_bot]
  rfl

/-- The powers of two tried. -/
def pows : FVec Ideal S1x384 .f32 := exp2 (sitofp .f32 (subi (iota .tc S1x384 32 [1] iota_S1x384_d1_w32) (broadcast S1x384 256#32)))
theorem pows_at (k : Fin 384) : pows (ix2 0 k) = (((2 : ℝ) ^ ((k.val : ℤ) - 256) : ℝ) : EReal) := by
  unfold pows
  pointwise
  exact exp2_of k

/-- The scales from the greatest magnitudes. -/
def scalev (v4 : FVec Ideal S17408x1 .f32) (v11 : FVec Ideal S1x384 .f32) : FVec Ideal S17408x1 .f32 :=
  select (ori (cmpf .oeq v4 (broadcast S17408x1 (Scalar.ofBits .f32 0x00000000#32))) (cmpf .oeq v4 (broadcast S17408x1 (Scalar.ofBits .f32 0x7F800000#32)))) (broadcast S17408x1 (Scalar.ofBits .f32 0x3F800000#32))
    (shapeCast S17408x1 (multiReduction .minimumf [1] S17408
      (select (cmpf .ogt (broadcastTo S17408x384 v11 broadcasts_S1x384_S17408x384)
          (broadcastTo S17408x384 (mulf v4 (broadcast S17408x1 (Scalar.ofBits .f32 0x3B124925#32))) broadcasts_S17408x1_S17408x384))
        (broadcastTo S17408x384 (shapeCast S1x384 v11 shapeCasts_S1x384_S1x384) broadcasts_S1x384_S17408x384)
        (broadcast S17408x384 (Scalar.ofBits .f32 0x7F800000#32)))
      0x7F800000#32 reduces_S17408x384_S17408 (.inl rfl) rfl) shapeCasts_S17408_S17408x1)

theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp [hp, hq, Scalar.select, IntOp.ori]

theorem scalev_at (v4 : FVec Ideal S17408x1 .f32) (v11 : FVec Ideal S1x384 .f32) (hp : ∀ k : Fin 384, v11 (ix2 0 k) = (((2 : ℝ) ^ ((k.val : ℤ) - 256) : ℝ) : EReal)) (R : Fin 17408) :
    scalev v4 v11 (ix2 R 0) = rscale (v4 (ix2 R 0)) := by
  unfold scalev rscale
  pointwise
  simp only [hp, Scale.ofBits_c, Scale.ofBits_top]
  exact select_or _ _ _ _

theorem pay2_scale (x : Vec Ideal S17408x1408 .bf16) : k0_pay2 (F := Ideal) x = scalev (amaxv x) pows := rfl

theorem scale_at (x : Vec Ideal S17408x1408 .bf16) (R : Fin 17408) : k0_pay2 (F := Ideal) x (ix2 R 0) = rscale (amax (fun k : Fin 1408 => (x (ix2 R k) : EReal))) := by
  rw [pay2_scale, scalev_at _ _ pows_at, amaxv_at]

theorem div_of {a s : EReal} (g : Scale.Serves a s) (v : EReal) : Ideal.div v s = v * s⁻¹ := by
  obtain ⟨σ, h0, rfl⟩ := g.real
  unfold Ideal.div
  rw [if_neg (by exact_mod_cast h0.ne')]

theorem code_at (x : Vec Ideal S17408x1408 .bf16) (R : Fin 17408) (k : Fin 1408) (h : amax (fun k : Fin 1408 => (x (ix2 R k) : EReal)) ≤ (Scale.B : EReal) ∨ amax (fun k : Fin 1408 => (x (ix2 R k) : EReal)) = ⊤) :
    k0_pay3 (F := Ideal) x (ix2 R k) =
      min ((448 : ℝ) : EReal) (max ((-448 : ℝ) : EReal) (x (ix2 R k) * (rscale (amax (fun k : Fin 1408 => (x (ix2 R k) : EReal))))⁻¹)) := by
  rw [pay3_codes, codes_at, scale_at, div_of (Scale.rscale_serves h), Scale.ofBits_448, Scale.ofBits_n448]

end Cert.ReferenceIdeal.Val
-- ==== Proof.RefRow.lean ====
module

public import proofs.«01_k».proof.Proof.RefChain
public import proofs.«01_k».proof.Proof.RefScale
public import proofs.«01_k».proof.Proof.Sched

/-! The reference's result at a row: its expert's product. -/

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic

/-- The sixteen experts' choices, one after the other. -/
def chainv {F : FTy → Type} [FloatOps F] (s : FVec F S17408x1 .f32) (q : FVec F S17408x1408 .fp8e4m3) (io : IVec S17408x1 32)
    (x1 : Vec F S16x1 .i32) (x2 : Vec F S16x1 .i32) (x3 : Vec F S16x1408x2816 .fp8e4m3) (x4 : Vec F S16x2816 .f32) : FVec F S17408x2816 .f32 :=
  k0_pay6 s q io (k0_pay6 s q io (k0_pay6 s q io (k0_pay6 s q io (k0_pay6 s q io (k0_pay6 s q io (k0_pay6 s q io (k0_pay6 s q io k0_pay4 (k0_pay7 q (View.ld x3 r0_1)) (View.ld x1 r0_2) (View.ld x2 r0_2) (View.ld x4 r0_3) (View.ld x3 r0_4) (View.ld x1 r0_5) (View.ld x2 r0_5) (View.ld x4 r0_6)) (k0_pay7 q (View.ld x3 r0_7)) (View.ld x1 r0_8) (View.ld x2 r0_8) (View.ld x4 r0_9) (View.ld x3 r0_10) (View.ld x1 r0_11) (View.ld x2 r0_11) (View.ld x4 r0_12)) (k0_pay7 q (View.ld x3 r0_13)) (View.ld x1 r0_14) (View.ld x2 r0_14) (View.ld x4 r0_15) (View.ld x3 r0_16) (View.ld x1 r0_17) (View.ld x2 r0_17) (View.ld x4 r0_18)) (k0_pay7 q (View.ld x3 r0_19)) (View.ld x1 r0_20) (View.ld x2 r0_20) (View.ld x4 r0_21) (View.ld x3 r0_22) (View.ld x1 r0_23) (View.ld x2 r0_23) (View.ld x4 r0_24)) (k0_pay7 q (View.ld x3 r0_25)) (View.ld x1 r0_26) (View.ld x2 r0_26) (View.ld x4 r0_27) (View.ld x3 r0_28) (View.ld x1 r0_29) (View.ld x2 r0_29) (View.ld x4 r0_30)) (k0_pay7 q (View.ld x3 r0_31)) (View.ld x1 r0_32) (View.ld x2 r0_32) (View.ld x4 r0_33) (View.ld x3 r0_34) (View.ld x1 r0_35) (View.ld x2 r0_35) (View.ld x4 r0_36)) (k0_pay7 q (View.ld x3 r0_37)) (View.ld x1 r0_38) (View.ld x2 r0_38) (View.ld x4 r0_39) (View.ld x3 r0_40) (View.ld x1 r0_41) (View.ld x2 r0_41) (View.ld x4 r0_42)) (k0_pay7 q (View.ld x3 r0_43)) (View.ld x1 r0_44) (View.ld x2 r0_44) (View.ld x4 r0_45) (View.ld x3 r0_46) (View.ld x1 r0_47) (View.ld x2 r0_47) (View.ld x4 r0_48)

/-- The same choices at one row and column. -/
def chain (io : BitVec 32) (st en : Fin 16 → BitVec 32) (f : Fin 16 → EReal) : ℕ → EReal
  | 0 => 0
  | n + 1 => if h : n < 16 then sel io (IntOp.cmpi .sge io (st ⟨n, h⟩)) (en ⟨n, h⟩) (f ⟨n, h⟩) (chain io st en f n) else 0

theorem chain16 (io : BitVec 32) (st en : Fin 16 → BitVec 32) (f : Fin 16 → EReal) : chain io st en f 16
    = (sel io (IntOp.cmpi .sge io (st 15)) (en 15) (f 15) (sel io (IntOp.cmpi .sge io (st 14)) (en 14) (f 14) (sel io (IntOp.cmpi .sge io (st 13)) (en 13) (f 13) (sel io (IntOp.cmpi .sge io (st 12)) (en 12) (f 12) (sel io (IntOp.cmpi .sge io (st 11)) (en 11) (f 11) (sel io (IntOp.cmpi .sge io (st 10)) (en 10) (f 10) (sel io (IntOp.cmpi .sge io (st 9)) (en 9) (f 9) (sel io (IntOp.cmpi .sge io (st 8)) (en 8) (f 8) (sel io (IntOp.cmpi .sge io (st 7)) (en 7) (f 7) (sel io (IntOp.cmpi .sge io (st 6)) (en 6) (f 6) (sel io (IntOp.cmpi .sge io (st 5)) (en 5) (f 5) (sel io (IntOp.cmpi .sge io (st 4)) (en 4) (f 4) (sel io (IntOp.cmpi .sge io (st 3)) (en 3) (f 3) (sel io (IntOp.cmpi .sge io (st 2)) (en 2) (f 2) (sel io (IntOp.cmpi .sge io (st 1)) (en 1) (f 1) (sel io (IntOp.cmpi .sge io (st 0)) (en 0) (f 0) 0)))))))))))))))) := rfl

theorem pay4_at (R : Fin 17408) (j : Fin 2816) : k0_pay4 (F := Ideal) (ix2 R j) = (0 : EReal) := by
  unfold k0_pay4
  pointwise

theorem chainv_at (s : FVec Ideal S17408x1 .f32) (q : FVec Ideal S17408x1408 .fp8e4m3) (io : IVec S17408x1 32)
    (x1 : Vec Ideal S16x1 .i32) (x2 : Vec Ideal S16x1 .i32) (x3 : Vec Ideal S16x1408x2816 .fp8e4m3) (x4 : Vec Ideal S16x2816 .f32) (R : Fin 17408) (j : Fin 2816) :
    chainv (F := Ideal) s q io x1 x2 x3 x4 (ix2 R j)
      = chain (io (ix2 R 0)) (fun g => x1 (ix2 g 0)) (fun g => x2 (ix2 g 0)) (fun g => (∑ k : Fin 1408, (q (ix2 R k) : EReal) * x3 (ix3 g k j)) * s (ix2 R 0) * x4 (ix2 g j)) 16 := by
  unfold chainv
  simp only [pay6_at, pay7_at]
  pointwise
  rw [pay4_at, chain16]

theorem toInt_of (n : ℕ) (h : n ≤ 17408) : (BitVec.ofNat 32 n).toInt = (n : ℤ) := by
  rw [BitVec.toInt_eq_toNat_of_lt (by rw [BitVec.toNat_ofNat]; omega), BitVec.toNat_ofNat]; omega

theorem sel_of (R a b : ℕ) (hR : R ≤ 17408) (ha : a ≤ 17408) (hb : b ≤ 17408) (p o : EReal) :
    sel (BitVec.ofNat 32 R) (IntOp.cmpi .sge (BitVec.ofNat 32 R) (BitVec.ofNat 32 a)) (BitVec.ofNat 32 b) p o = if a ≤ R ∧ R < b then p else o := by
  have e1 : IntOp.cmpi .sge (BitVec.ofNat 32 R) (BitVec.ofNat 32 a) = BitVec.ofBool (decide (a ≤ R)) := by
    show BitVec.ofBool (BitVec.sle _ _) = _
    congr 1
    rw [Bool.eq_iff_iff, BitVec.sle_iff_toInt_le, decide_eq_true_iff, toInt_of _ ha, toInt_of _ hR]
    omega
  have e2 : IntOp.cmpi .slt (BitVec.ofNat 32 R) (BitVec.ofNat 32 b) = BitVec.ofBool (decide (R < b)) := by
    show BitVec.ofBool (BitVec.slt _ _) = _
    congr 1
    rw [Bool.eq_iff_iff, BitVec.slt_iff_toInt_lt, decide_eq_true_iff, toInt_of _ hR, toInt_of _ hb]
    omega
  unfold sel
  rw [e1, e2]
  by_cases h1 : a ≤ R <;> by_cases h2 : R < b <;> simp [h1, h2, Scalar.select, IntOp.andi]

section Rows
variable (z : ℕ → ℕ) (hs : Sched.S z 16 = 17408)
include hs

/-- The last expert whose rows start at or before `R` is the one chosen. -/
theorem chain_of (R : ℕ) (hR : R < 17408) (st en : Fin 16 → BitVec 32) (f : Fin 16 → EReal)
    (h1 : ∀ g, st g = BitVec.ofNat 32 (Sched.S z g.val)) (h2 : ∀ g, en g = BitVec.ofNat 32 (Sched.S z (g.val + 1))) :
    chain (BitVec.ofNat 32 R) st en f 16 = f ⟨Sched.ex z R, (Sched.ex_spec z hs R hR).1⟩ := by
  obtain ⟨a, b, d⟩ := Sched.ex_spec z hs R hR
  have key : ∀ n, n ≤ 16 → Sched.ex z R < n → chain (BitVec.ofNat 32 R) st en f n = f ⟨Sched.ex z R, a⟩ := by
    intro n
    induction n with
    | zero => intro _ h; omega
    | succ n ih =>
      intro hn he
      have hn' : n < 16 := by omega
      unfold chain
      rw [dif_pos hn', h1, h2]
      show sel _ (IntOp.cmpi .sge _ (BitVec.ofNat 32 (Sched.S z n))) (BitVec.ofNat 32 (Sched.S z (n + 1))) _ _ = _
      have b1 : Sched.S z n ≤ 17408 := hs ▸ Sched.S_mono z (by omega : n ≤ 16)
      have b2 : Sched.S z (n + 1) ≤ 17408 := hs ▸ Sched.S_mono z (by omega : n + 1 ≤ 16)
      rw [sel_of _ _ _ hR.le b1 b2]
      by_cases hx : Sched.ex z R = n
      · subst hx
        rw [if_pos ⟨b, d⟩]
      · have : Sched.S z (Sched.ex z R + 1) ≤ Sched.S z n := Sched.S_mono z (by omega)
        rw [if_neg (by omega)]
        exact ih (by omega) (by omega)
  exact key 16 le_rfl a

end Rows

end Cert.ReferenceIdeal.Val
-- ==== Proof.RefOut.lean ====
module

public import proofs.«01_k».proof.Proof.RefRow

/-! What the reference's body leaves: the sixteen choices, rounded to the result's type. -/

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic

/-- The sixteen choices as the body writes them. -/
def outv {F : FTy → Type} [FloatOps F] (s : FVec F S17408x1 .f32) (q : FVec F S17408x1408 .fp8e4m3) (io : IVec S17408x1 32)
    (x1 : Vec F S16x1 .i32) (x2 : Vec F S16x1 .i32) (x3 : Vec F S16x1408x2816 .fp8e4m3) (x4 : Vec F S16x2816 .f32) : FVec F S17408x2816 .bf16 :=
  k0_pay20 s q io (k0_pay18 s q io (k0_pay16 s q io (k0_pay14 s q io (k0_pay12 s q io (k0_pay10 s q io (k0_pay8 s q io (k0_pay6 s q io k0_pay4 (k0_pay7 q (View.ld x3 r0_1)) (View.ld x1 r0_2) (View.ld x2 r0_2) (View.ld x4 r0_3) (View.ld x3 r0_4) (View.ld x1 r0_5) (View.ld x2 r0_5) (View.ld x4 r0_6)) (k0_pay7 q (View.ld x3 r0_7)) (View.ld x1 r0_8) (View.ld x2 r0_8) (View.ld x4 r0_9) (View.ld x3 r0_10) (View.ld x1 r0_11) (View.ld x2 r0_11) (View.ld x4 r0_12)) (k0_pay9 q (View.ld x3 r0_13)) (View.ld x1 r0_14) (View.ld x2 r0_14) (View.ld x4 r0_15) (View.ld x3 r0_16) (View.ld x1 r0_17) (View.ld x2 r0_17) (View.ld x4 r0_18)) (k0_pay11 q (View.ld x3 r0_19)) (View.ld x1 r0_20) (View.ld x2 r0_20) (View.ld x4 r0_21) (View.ld x3 r0_22) (View.ld x1 r0_23) (View.ld x2 r0_23) (View.ld x4 r0_24)) (k0_pay13 q (View.ld x3 r0_25)) (View.ld x1 r0_26) (View.ld x2 r0_26) (View.ld x4 r0_27) (View.ld x3 r0_28) (View.ld x1 r0_29) (View.ld x2 r0_29) (View.ld x4 r0_30)) (k0_pay15 q (View.ld x3 r0_31)) (View.ld x1 r0_32) (View.ld x2 r0_32) (View.ld x4 r0_33) (View.ld x3 r0_34) (View.ld x1 r0_35) (View.ld x2 r0_35) (View.ld x4 r0_36)) (k0_pay17 q (View.ld x3 r0_37)) (View.ld x1 r0_38) (View.ld x2 r0_38) (View.ld x4 r0_39) (View.ld x3 r0_40) (View.ld x1 r0_41) (View.ld x2 r0_41) (View.ld x4 r0_42)) (k0_pay19 q (View.ld x3 r0_43)) (View.ld x1 r0_44) (View.ld x2 r0_44) (View.ld x4 r0_45) (View.ld x3 r0_46) (View.ld x1 r0_47) (View.ld x2 r0_47) (View.ld x4 r0_48)

variable {F : FTy → Type} [FloatOps F]

theorem p20 (s : FVec F S17408x1 .f32) (q : FVec F S17408x1408 .fp8e4m3) (io : IVec S17408x1 32) (a b : FVec F S17408x2816 .f32)
    (c : Vec F S1x1 .i32) (d : Vec F S1x1 .i32) (e : Vec F S1x2816 .f32) (f : Vec F S1x1408x2816 .fp8e4m3) (g h : Vec F S1x1 .i32) (k : Vec F S1x2816 .f32) :
    k0_pay20 s q io a b c d e f g h k = truncf .bf16 (k0_pay6 s q io a b c d e f g h k) bitsLt_bf16_f32 := rfl

theorem outv_eq (s : FVec F S17408x1 .f32) (q : FVec F S17408x1408 .fp8e4m3) (io : IVec S17408x1 32)
    (x1 : Vec F S16x1 .i32) (x2 : Vec F S16x1 .i32) (x3 : Vec F S16x1408x2816 .fp8e4m3) (x4 : Vec F S16x2816 .f32) :
    outv s q io x1 x2 x3 x4 = truncf .bf16 (chainv s q io x1 x2 x3 x4) bitsLt_bf16_f32 := by
  unfold outv chainv
  rw [p20]
  simp only [p8, p10, p12, p14, p16, p18, p9, p11, p13, p15, p17, p19]

theorem p5 (x : Vec F S17408x1408 .bf16) (v : Vec F S1x1408x2816 .fp8e4m3) : k0_pay5 x v = k0_pay7 (k0_pay3 x) v := rfl

theorem out_eq (x0 : Vec F S17408x1408 .bf16) (x1 : Vec F S16x1 .i32) (x2 : Vec F S16x1 .i32) (x3 : Vec F S16x1408x2816 .fp8e4m3) (x4 : Vec F S16x2816 .f32) :
    out0_5 x0 x1 x2 x3 x4 = outv (k0_pay2 x0) (k0_pay3 x0) (iota .tc S17408x1 32 [0] iota_S17408x1_d0_w32) x1 x2 x3 x4 := by
  have h0 : View.ld x0 r0_0 = x0 := View.ld_unit_lit' _ x0 (by decide)
  unfold out0_5
  have hz : (![0, 0] : Fin 2 → ℕ) = fun _ => 0 := funext (Fin.forall_fin_two.mpr ⟨rfl, rfl⟩)
  refine (View.canon_unit_zero (S := S17408x2816) hz _ _).trans ?_
  rw [p5]
  unfold outv k0_pay23 k0_pay22 k0_pay21
  rw [h0]

end Cert.ReferenceIdeal.Val
-- ==== Proof.RefHost.lean ====
module

public import proofs.«01_k».proof.Proof.Gen.ReferenceIdeal.Frame
public import proofs.«01_k».proof.Proof.Tables
public import Idealize.ShloMosaic.Lib.StableHlo.RunRead
public import Idealize.ShloMosaic.Lib.Pointwise
public import Idealize.ShloMosaic.Lib.Pipeline.ValueKit

/-! What the reference's host computes before its launch: where each expert's rows start and end. -/

@[expose] public section

set_option maxRecDepth 16384
set_option backward.isDefEq.respectTransparency.types false

noncomputable section

namespace Cert.ReferenceIdeal.Val

open Cert.ReferenceIdeal Cert.ReferenceIdeal.Gen
open Idealize.ShloMosaic Idealize.ShloMosaic.TcCoe Idealize.ShloMosaic.Tactic

variable {F : FTy → Type} [FloatOps F]
variable (m : (ℓ : Loc nD τ sig) → Buf (Elt F) ℓ)

/-- The group sizes core `c` is given. -/
abbrev gs (c : Dev nD) : IVec (Routing.shape1 16) 32 := m ((c : Thread nD τ).loc main_arg1)

theorem of_arg1 (h h' h'') (x : (⟨S16, .i32⟩ : BufTy).Contents (Elt F)) : (StableHlo.TRef.of main_arg1 h h' h'' : StableHlo.TRef sig ⟨S16, .i32⟩).ofBuf x = x := rfl
theorem to_v0 (h h' h'') (x : (⟨S16, .i32⟩ : BufTy).Contents (Elt F)) : (StableHlo.TRef.of main_v0 h h' h'' : StableHlo.TRef sig ⟨S16, .i32⟩).toBuf x = x := rfl

theorem V_v3 (c : Dev nD) : V m c main_v3 = shapeCast S16x1 (Tables.cums (gs m c)) shapeCasts_S16_S16x1 := by
  unfold_abbrev_sides
  after_reads_simp
  simp only [StableHlo.TRef.ofBuf_toBuf, id_eq, of_arg1, to_v0]
  rfl
theorem V_v2 (c : Dev nD) : V m c main_v2 = shapeCast S16x1 (Tables.starts (gs m c)) shapeCasts_S16_S16x1 := by
  unfold_abbrev_sides
  after_reads_simp
  simp only [StableHlo.TRef.ofBuf_toBuf, id_eq, of_arg1, to_v0]
  rfl

theorem cast_at (x : IVec S16 32) (g : Fin 16) : shapeCast S16x1 x shapeCasts_S16_S16x1 (ix2 g 0) = x (ix1 g) := by
  pointwise

theorem emb0 (t) (y : S17408x1408.Idx) (a : Fin 2) : ((win0_0.blk t).view.emb y a).val = (y a).val := by
  refine (ValueKit.view_emb_slice_whole_unit_val main_arg0 (fun a => 0 * S17408x1408.size a) S17408x1408.size (fun a => by rw [Nat.zero_mul, Nat.zero_add]; exact le_rfl) y a).trans ?_
  omega
theorem iblk0 (c : Dev nD) (t) : iblk m c 0 t = V m c main_arg0 := by
  funext (y : S17408x1408.Idx)
  blk_simp [iblk]
  exact congrArg (V m c main_arg0) (funext fun a => Fin.ext (emb0 t y a))
theorem emb1 (t) (y : S16x1.Idx) (a : Fin 2) : ((win0_1.blk t).view.emb y a).val = (y a).val := by
  refine (ValueKit.view_emb_slice_whole_unit_val main_v2 (fun a => 0 * S16x1.size a) S16x1.size (fun a => by rw [Nat.zero_mul, Nat.zero_add]; exact le_rfl) y a).trans ?_
  omega
theorem iblk1 (c : Dev nD) (t) : iblk m c 1 t = V m c main_v2 := by
  funext (y : S16x1.Idx)
  blk_simp [iblk]
  exact congrArg (V m c main_v2) (funext fun a => Fin.ext (emb1 t y a))
theorem emb2 (t) (y : S16x1.Idx) (a : Fin 2) : ((win0_2.blk t).view.emb y a).val = (y a).val := by
  refine (ValueKit.view_emb_slice_whole_unit_val main_v3 (fun a => 0 * S16x1.size a) S16x1.size (fun a => by rw [Nat.zero_mul, Nat.zero_add]; exact le_rfl) y a).trans ?_
  omega
theorem iblk2 (c : Dev nD) (t) : iblk m c 2 t = V m c main_v3 := by
  funext (y : S16x1.Idx)
  blk_simp [iblk]
  exact congrArg (V m c main_v3) (funext fun a => Fin.ext (emb2 t y a))
theorem emb3 (t) (y : S16x1408x2816.Idx) (a : Fin 3) : ((win0_3.blk t).view.emb y a).val = (y a).val := by
  refine (ValueKit.view_emb_slice_whole_unit_val main_arg2 (fun a => 0 * S16x1408x2816.size a) S16x1408x2816.size (fun a => by rw [Nat.zero_mul, Nat.zero_add]; exact le_rfl) y a).trans ?_
  omega
theorem iblk3 (c : Dev nD) (t) : iblk m c 3 t = V m c main_arg2 := by
  funext (y : S16x1408x2816.Idx)
  blk_simp [iblk]
  exact congrArg (V m c main_arg2) (funext fun a => Fin.ext (emb3 t y a))
theorem emb4 (t) (y : S16x2816.Idx) (a : Fin 2) : ((win0_4.blk t).view.emb y a).val = (y a).val := by
  refine (ValueKit.view_emb_slice_whole_unit_val main_arg3 (fun a => 0 * S16x2816.size a) S16x2816.size (fun a => by rw [Nat.zero_mul, Nat.zero_add]; exact le_rfl) y a).trans ?_
  omega
theorem iblk4 (c : Dev nD) (t) : iblk m c 4 t = V m c main_arg3 := by
  funext (y : S16x2816.Idx)
  blk_simp [iblk]
  exact congrArg (V m c main_arg3) (funext fun a => Fin.ext (emb4 t y a))
theorem emb5 (t) (y : S17408x2816.Idx) (a : Fin 2) : ((win0_5.blk t).view.emb y a).val = (y a).val := by
  refine (ValueKit.view_emb_slice_whole_unit_val main_v4 (fun a => 0 * S17408x2816.size a) S17408x2816.size (fun a => by rw [Nat.zero_mul, Nat.zero_add]; exact le_rfl) y a).trans ?_
  omega

end Cert.ReferenceIdeal.Val
-- ==== Proof.RefVal.lean ====
module

public import proofs.«01_k».proof.Proof.RefOut
public import proofs.«01_k».proof.Proof.RefHost
public import proofs.«01_k».proof.Proof.Product

/-! The reference's run ends with every row's product. -/

@[expose] public section

set_option maxRecDepth 16384
set_option backward.isDefEq.respectTransparency.types false

noncomputable section

namespace Cert.ReferenceIdeal.Val

open Cert.ReferenceIdeal Cert.ReferenceIdeal.Gen
open Idealize.ShloMosaic Idealize.ShloMosaic.TcCoe Idealize.ShloMosaic.Tactic

theorem iota_at (R : Fin 17408) : iota .tc S17408x1 32 [0] iota_S17408x1_d0_w32 (ix2 R 0) = BitVec.ofNat 32 R.val := by
  pointwise

theorem trunc_at (X : FVec Ideal S17408x2816 .f32) (i : S17408x2816.Idx) : truncf (F := Ideal) .bf16 X bitsLt_bf16_f32 i = (X i : EReal) := rfl

/-- A row's chain of choices is its expert's product. -/
theorem row_at (s : FVec Ideal S17408x1 .f32) (q : FVec Ideal S17408x1408 .fp8e4m3) (io : IVec S17408x1 32)
    (x0 : Vec Ideal S17408x1408 .bf16) (x1 : Vec Ideal S16x1 .i32) (x2 : Vec Ideal S16x1 .i32) (x3 : Vec Ideal S16x1408x2816 .fp8e4m3) (x4 : Vec Ideal S16x2816 .f32)
    (z : ℕ → ℕ) (hs : Sched.S z 16 = 17408)
    (h1 : ∀ g : Fin 16, x1 (ix2 g 0) = BitVec.ofNat 32 (Sched.S z g.val)) (h2 : ∀ g : Fin 16, x2 (ix2 g 0) = BitVec.ofNat 32 (Sched.S z (g.val + 1)))
    (R : Fin 17408) (j : Fin 2816) (hio : io (ix2 R 0) = BitVec.ofNat 32 R.val)
    (h : ∀ k : Fin 1408, Scale.Fit (x0 (ix2 R k)))
    (hsc : s (ix2 R 0) = Scale.rscale (Scale.amax fun k : Fin 1408 => (x0 (ix2 R k) : EReal)))
    (hq : ∀ k : Fin 1408, q (ix2 R k) = min ((448 : ℝ) : EReal) (max ((-448 : ℝ) : EReal) (x0 (ix2 R k) * (Scale.rscale (Scale.amax (fun k : Fin 1408 => (x0 (ix2 R k) : EReal))))⁻¹))) :
    chainv (F := Ideal) s q io x1 x2 x3 x4 (ix2 R j)
      = (Scale.prod (fun k : Fin 1408 => (x0 (ix2 R k) : EReal)) (fun k => x3 (ix3 ⟨Sched.ex z R.val, (Sched.ex_spec z hs R.val R.isLt).1⟩ k j)) * x4 (ix2 ⟨Sched.ex z R.val, (Sched.ex_spec z hs R.val R.isLt).1⟩ j) : EReal) := by
  have ha := Scale.amax_fit (fun k : Fin 1408 => (x0 (ix2 R k) : EReal)) h
  rw [chainv_at, hio, chain_of z hs R.val R.isLt _ _ _ h1 h2, hsc]
  refine congrArg (fun u : EReal => u * x4 _) ?_
  exact Scale.row_prod (fun k : Fin 1408 => (x0 (ix2 R k) : EReal)) _ (fun k => q (ix2 R k)) (Scale.rscale_serves ha) hq

variable (m : (ℓ : Loc nD τ sig) → Buf (Elt Ideal) ℓ)

theorem st_at (c : Dev nD) (hs : Sched.S (Tables.sz (gs m c)) 16 = 17408) (g : Fin 16) :
    (V m c main_v2 : Vec Ideal S16x1 .i32) (ix2 g 0) = BitVec.ofNat 32 (Sched.S (Tables.sz (gs m c)) g.val) := by
  rw [V_v2, cast_at]
  exact Tables.starts_ap (gs m c) hs g
theorem en_at (c : Dev nD) (g : Fin 16) :
    (V m c main_v3 : Vec Ideal S16x1 .i32) (ix2 g 0) = BitVec.ofNat 32 (Sched.S (Tables.sz (gs m c)) (g.val + 1)) := by
  rw [V_v3, cast_at]
  exact Tables.cums_ap (gs m c) (Tables.sz (gs m c)) (Tables.sz_ap (gs m c)) g

/-- The result from the arguments. -/
abbrev want (c : Dev nD) : Vec Ideal S17408x2816 .bf16 :=
  Product.out (m ((c : Thread nD τ).loc main_arg0)) (gs m c) (m ((c : Thread nD τ).loc main_arg2)) (m ((c : Thread nD τ).loc main_arg3))

theorem left_at (c : Dev nD) (hs : Sched.S (Tables.sz (gs m c)) 16 = 17408)
    (h : Product.Fits (m ((c : Thread nD τ).loc main_arg0)))
    (t : Fin cfg0.N) : out0_5 (F := Ideal) (iblk m c 0 t) (iblk m c 1 t) (iblk m c 2 t) (iblk m c 3 t) (iblk m c 4 t) = want m c := by
  rw [iblk0, iblk1, iblk2, iblk3, iblk4, V_main_arg0, V_main_arg2, V_main_arg3, out_eq, outv_eq]
  funext (i : S17408x2816.Idx)
  obtain ⟨R, j, rfl⟩ : ∃ (R : Fin 17408) (j : Fin 2816), i = ix2 R j := ⟨i 0, i 1, (ix2_eta i).symm⟩
  rw [trunc_at]
  have hx : (⟨Sched.ex (Tables.sz (gs m c)) R.val, (Sched.ex_spec _ hs R.val R.isLt).1⟩ : Fin 16) = Product.ex (gs m c) R.val :=
    Fin.ext (Nat.mod_eq_of_lt (Sched.ex_spec _ hs R.val R.isLt).1).symm
  have ha := Scale.amax_fit (fun k : Fin 1408 => ((m ((c : Thread nD τ).loc main_arg0) : Vec Ideal S17408x1408 .bf16) (ix2 R k) : EReal)) fun k => h _
  have e := row_at (k0_pay2 (F := Ideal) (m ((c : Thread nD τ).loc main_arg0))) (k0_pay3 (F := Ideal) (m ((c : Thread nD τ).loc main_arg0))) (iota .tc S17408x1 32 [0] iota_S17408x1_d0_w32)
    (m ((c : Thread nD τ).loc main_arg0)) (V m c main_v2) (V m c main_v3) (m ((c : Thread nD τ).loc main_arg2)) (m ((c : Thread nD τ).loc main_arg3))
    (Tables.sz (gs m c)) hs (st_at m c hs) (en_at m c) R j (iota_at R) (fun k => h _) (scale_at _ R) (fun k => code_at _ R k ha)
  rw [hx] at e
  exact e

theorem arr_want (c : Dev nD) (hs : Sched.S (Tables.sz (gs m c)) 16 = 17408)
    (h : Product.Fits (m ((c : Thread nD τ).loc main_arg0))) :
    (dats m 0 c).arrAt 5 cfg0.N = want m c := by
  refine (dats m 0 c).arrAt_eq_of_covers 5 (want m c) (by decide +kernel) fun t hf (y : S17408x2816.Idx) => ?_
  refine (congrFun ((after0_5 m c t).trans (left_at m c hs h t)) y).trans ?_
  exact congrArg (want m c) (funext fun a => Fin.ext (emb5 t y a).symm)

/-- The run ends with the result array holding the rows' products and the arguments unchanged. -/
theorem value (hs : ∀ c : Dev nD, Sched.S (Tables.sz (gs m c)) 16 = 17408)
    (h : ∀ c : Dev nD, Product.Fits (m ((c : Thread nD τ).loc main_arg0)))
    (ρ : Dev nD → PrngReg) : θ_run (defs (F := Ideal)) (onTc (τ := τ) (main (F := Ideal))) ⟨m, fun _ => 0, ρ⟩ (fun r => ∀ c : Dev nD,
      r.2.mem ((c.tc : Thread nD τ).loc main_v4) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h' c => ⟨((h'.1 c).1 5).trans (arr_want m c (hs c) (h c)), h'.2 c⟩)
    (θ_run_and (run_main m ρ) (unchanged m ρ))

end Cert.ReferenceIdeal.Val
-- ==== Proof.Alg.lean ====
module

public import proofs.«01_k».proof.Defs
public import proofs.«01_k».proof.Proof.ResI
public import proofs.«01_k».proof.Proof.RefVal
public import proofs.«01_k».proof.Proof.Rows
public import proofs.«01_k».proof.Proof.Gen.Pre_rows_in_range

/-! The kernel and the reference end with the same result. -/

@[expose] public section

noncomputable section

namespace Cert.Alg

open Idealize.ShloMosaic Idealize.SL.Sem

theorem algebraic : Cert.algebraic_KernelIdeal_ReferenceIdeal_pre_rows_in_range := by
  intro m g m' g' hp ha
  have h0 : ∀ c : Dev Cert.KernelIdeal.nD, c = 0 := fun c => Subsingleton.elim c 0
  have hs : Sched.S (Tables.sz (Cert.KernelIdeal.Run.gs m 0)) 16 = 17408 := PreFacts.rows _ _ _ _ (hp 0)
  have hf : Product.Fits (m (((0 : Dev Cert.KernelIdeal.nD).tc : Thread Cert.KernelIdeal.nD Cert.KernelIdeal.τ).loc Cert.KernelIdeal.main_arg0)) :=
    fun i => PreFacts.finite _ _ _ _ (hp 0) i
  have ew : ∀ c : Dev Cert.KernelIdeal.nD, Cert.ReferenceIdeal.Val.want m' c = Cert.KernelIdeal.Run.res (F := Ideal) m := fun c => by
    obtain ⟨e0, e1, e2, e3⟩ := ha c
    have := h0 c
    subst this
    rw [Cert.KernelIdeal.Run.res_eq m hf]
    unfold Cert.ReferenceIdeal.Val.want Cert.ReferenceIdeal.Val.gs
    rw [e0, e1, e2, e3]
  refine ⟨fun _ => Cert.KernelIdeal.Run.res (F := Ideal) m, Cert.KernelIdeal.Run.value m hs g, ?_⟩
  have hs' : ∀ c : Dev Cert.KernelIdeal.nD, Sched.S (Tables.sz (Cert.ReferenceIdeal.Val.gs m' c)) 16 = 17408 := fun c => by
    have := h0 c
    subst this
    unfold Cert.ReferenceIdeal.Val.gs
    rw [(ha 0).2.1]
    exact hs
  have hf' : ∀ c : Dev Cert.KernelIdeal.nD, Product.Fits (m' ((c.tc : Thread Cert.ReferenceIdeal.nD Cert.ReferenceIdeal.τ).loc Cert.ReferenceIdeal.main_arg0)) := fun c => by
    have := h0 c
    subst this
    rw [(ha 0).1]
    exact hf
  exact (θ_run _ _ _).mono (fun r h c => ⟨(h c).1.trans (ew c), (h c).2⟩) (Cert.ReferenceIdeal.Val.value m' hs' hf' g')

end Cert.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_groups_fill
public import proofs.«01_k».proof.Proof.Gen.Pre_rows_in_range
public import proofs.«01_k».proof.Proof.Rows
public import proofs.«01_k».proof.Proof.Run
public import proofs.«01_k».proof.Proof.RunI
public import proofs.«01_k».proof.Proof.Alg
public import Idealize.ShloMosaic.Adequacy
public import Idealize.ShloMosaic.Init

@[expose] public section

noncomputable section

namespace Cert.Proof

open Idealize.ShloMosaic Idealize.SL.Sem Cert.Kernel

/-- Each part of the claim: the kernel's run over words, over the extended reals, the reference's run, and the two results equal. -/
theorem claim : Cert.Claim := ⟨Cert.Kernel.Gen.facts, Cert.KernelIdeal.Gen.facts, Cert.ReferenceIdeal.Gen.facts, Cert.Pre_groups_fill.Gen.facts, Cert.Pre_rows_in_range.Gen.facts,
  fun m g h => Cert.Kernel.Run.quiescent m (@PreFacts.fill _ _ Cert.Pre_groups_fill.Gen.facts _ _ _ _ (h 0)) g,
  fun m g h => Cert.KernelIdeal.Run.quiescent m (@PreFacts.fill _ _ Cert.Pre_groups_fill.Gen.facts _ _ _ _ (h 0)) g,
  fun m g h => Cert.KernelIdeal.Run.quiescent m (@PreFacts.rows _ _ Cert.Pre_rows_in_range.Gen.facts _ _ _ _ (h 0)) g,
  fun m g _ => Cert.ReferenceIdeal.Gen.frame m g,
  fun m g _ => Cert.ReferenceIdeal.Gen.frame m g,
  trivial,
  Cert.Alg.algebraic⟩

end Cert.Proof

end
